-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S1000002x64 : Shape := ⟨2, ![1000002, 64]⟩
abbrev S64x16 : Shape := ⟨2, ![64, 16]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : IVec S1024x200 32) (main_arg2 : FVec F S1000002x64 .f32) (main_arg3 : FVec F S64x16 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 1000000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 64#32
  let main_v8 : IVec S1024x200 32 := broadcastInDim S1024x200 ![] bcast_S_S1024x200 main_c_3
  let main_v9 : IVec S1024x200 1 := cmpi .slt main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  main_v12
-- ==== Kernel.lean ====
abbrev S1024x200 : Shape := ⟨2, ![1024, 200]⟩
abbrev S1000002x64 : Shape := ⟨2, ![1000002, 64]⟩
abbrev S64x16 : Shape := ⟨2, ![64, 16]⟩
abbrev S64x1000002 : Shape := ⟨2, ![64, 1000002]⟩
abbrev S_ : Shape := ⟨0, ![]⟩
abbrev S128x1000002 : Shape := ⟨2, ![128, 1000002]⟩
abbrev S1000002x128 : Shape := ⟨2, ![1000002, 128]⟩
abbrev S204800 : Shape := ⟨1, ![204800]⟩
abbrev S204800x80 : Shape := ⟨2, ![204800, 80]⟩
abbrev S6400 : Shape := ⟨1, ![6400]⟩
abbrev S4x128x128 : Shape := ⟨3, ![4, 128, 128]⟩
abbrev S128x80 : Shape := ⟨2, ![128, 80]⟩
abbrev S1x128x128 : Shape := ⟨3, ![1, 128, 128]⟩
abbrev S128x128 : Shape := ⟨2, ![128, 128]⟩
abbrev S128 : Shape := ⟨1, ![128]⟩
abbrev S16 : Shape := ⟨1, ![16]⟩
abbrev S1x16 : Shape := ⟨2, ![1, 16]⟩
abbrev S1 : Shape := ⟨1, ![1]⟩
abbrev S1024x200x80 : Shape := ⟨3, ![1024, 200, 80]⟩

abbrev nBuf : Table → Nat
  | .hbm => 13
  | .local .scVector .vmem => 5
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S1000002x64, .f32⟩
  | .hbm, ⟨3, _⟩ => ⟨S64x16, .f32⟩
  | .hbm, ⟨4, _⟩ => ⟨S64x1000002, .f32⟩
  | .hbm, ⟨5, _⟩ => ⟨S_, .i32⟩
  | .hbm, ⟨6, _⟩ => ⟨S_, .f32⟩
  | .hbm, ⟨7, _⟩ => ⟨S128x1000002, .f32⟩
  | .hbm, ⟨8, _⟩ => ⟨S1000002x128, .f32⟩
  | .hbm, ⟨9, _⟩ => ⟨S204800, .i32⟩
  | .hbm, ⟨10, _⟩ => ⟨S204800, .i32⟩
  | .hbm, ⟨11, _⟩ => ⟨S204800x80, .f32⟩
  | .hbm, ⟨12, _⟩ => ⟨S1024x200x80, .f32⟩
  | .local .scVector .vmem, ⟨0, _⟩ => ⟨S6400, .i32⟩
  | .local .scVector .vmem, ⟨1, _⟩ => ⟨S6400, .i32⟩
  | .local .scVector .vmem, ⟨2, _⟩ => ⟨S64x16, .f32⟩
  | .local .scVector .vmem, ⟨3, _⟩ => ⟨S4x128x128, .f32⟩
  | .local .scVector .vmem, ⟨4, _⟩ => ⟨S128x80, .f32⟩
  | _, _ => ⟨S1024x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v3_scv : Ref sig .scVector := ⟨.hbm, 9, rfl⟩
abbrev main_v4_scv : Ref sig .scVector := ⟨.hbm, 10, rfl⟩
abbrev main_v2_scv : Ref sig .scVector := ⟨.hbm, 8, rfl⟩
abbrev main_arg3_scv : Ref sig .scVector := ⟨.hbm, 3, rfl⟩
abbrev main_v5_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_14 : BitVec 32 := 0#32
  let c13_i32 : BitVec 32 := 13#32
  let v15 : BitVec 32 := Scalar.addi c0_i32_14 c13_i32
  let c1_i32_15 : BitVec 32 := 1#32
  ⟨c0_i32_14, v15, c1_i32_15⟩
def k0_cond1 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c0_i32_19 : BitVec 32 := 0#32
  let v19 : BitVec 32 := Scalar.addi v18 c0_i32_19
  let c4_i32_20 : BitVec 32 := 4#32
  let v20 : BitVec 32 := Scalar.addi v19 c4_i32_20
  let c1_i32_21 : BitVec 32 := 1#32
  let v21 : BitVec 32 := Scalar.subi v20 c1_i32_21
  let c50_i32 : BitVec 32 := 50#32
  let v22 : BitVec 1 := Scalar.cmpi .slt v21 c50_i32
  let v23 : BitVec 32 := Scalar.extui v22
  let c0_i32_22 : BitVec 32 := 0#32
  let v24 : BitVec 1 := Scalar.cmpi .ne v23 c0_i32_22
  v24

def k0_off2 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c0_i32_19 : BitVec 32 := 0#32
  let v19 : BitVec 32 := Scalar.addi v18 c0_i32_19
  let c4_i32_45 : BitVec 32 := 4#32
  let v55 : BitVec 32 := Scalar.addi v19 c4_i32_45
  let c1_i32_46 : BitVec 32 := 1#32
  let v56 : BitVec 32 := Scalar.subi v55 c1_i32_46
  let c128_i32_47 : BitVec 32 := 128#32
  let v57 : BitVec 32 := Scalar.muli v56 c128_i32_47
  ![v57.toNat]
def k0_cond2 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c0_i32_19 : BitVec 32 := 0#32
  let v19 : BitVec 32 := Scalar.addi v18 c0_i32_19
  let c50_i32_23 : BitVec 32 := 50#32
  let v25 : BitVec 1 := Scalar.cmpi .slt v19 c50_i32_23
  let v26 : BitVec 32 := Scalar.extui v25
  let c0_i32_24 : BitVec 32 := 0#32
  let v27 : BitVec 1 := Scalar.cmpi .ne v26 c0_i32_24
  v27

def k0_off3 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c0_i32_19 : BitVec 32 := 0#32
  let v19 : BitVec 32 := Scalar.addi v18 c0_i32_19
  let c128_i32_45 : BitVec 32 := 128#32
  let v55 : BitVec 32 := Scalar.muli v19 c128_i32_45
  ![v55.toNat]
@[reducible] def k0_t2_loop : Scf.Loop 32 :=
  let c0_i32_52 : BitVec 32 := 0#32
  let c8_i32 : BitVec 32 := 8#32
  let v60 : BitVec 32 := Scalar.addi c0_i32_52 c8_i32
  let c1_i32_53 : BitVec 32 := 1#32
  ⟨c0_i32_52, v60, c1_i32_53⟩
def k0_off4 (k0_t1 : Fin k0_t1_loop.trips) (k0_t2 : Fin k0_t2_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c0_i32_19 : BitVec 32 := 0#32
  let v19 : BitVec 32 := Scalar.addi v18 c0_i32_19
  let c128_i32_45 : BitVec 32 := 128#32
  let v55 : BitVec 32 := Scalar.muli v19 c128_i32_45
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32 : BitVec 32 := 16#32
  let v64 : BitVec 32 := Scalar.muli v63 c16_i32
  let v65 : BitVec 32 := Scalar.addi v55 v64
  let v66 : Index := Scalar.indexCast v65
  ![v66.toNat]
def k0_off5 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v73 : Index := Scalar.indexCast v70
  let c0 : Index := 0#32
  ![v73.toNat, 0]
def k0_off6 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v76 : Index := Scalar.indexCast v70
  let c0_61 : Index := 0#32
  ![v76.toNat, 0]
def k0_off7 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v82 : Index := Scalar.indexCast v70
  let c16 : Index := 16#32
  ![v82.toNat, 16]
def k0_off8 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v85 : Index := Scalar.indexCast v70
  let c16_64 : Index := 16#32
  ![v85.toNat, 16]
def k0_off9 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v91 : Index := Scalar.indexCast v70
  let c32 : Index := 32#32
  ![v91.toNat, 32]
def k0_off10 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v94 : Index := Scalar.indexCast v70
  let c32_67 : Index := 32#32
  ![v94.toNat, 32]
def k0_off11 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v100 : Index := Scalar.indexCast v70
  let c48 : Index := 48#32
  ![v100.toNat, 48]
def k0_off12 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v103 : Index := Scalar.indexCast v70
  let c48_70 : Index := 48#32
  ![v103.toNat, 48]
def k0_off13 (v108 : BitVec 32) : Fin 2 → Nat :=
  let v109 : Index := Scalar.indexCast v108
  let c0_71 : Index := 0#32
  ![v109.toNat, 0]

def k0_chk1 (k0_t1 : Fin k0_t1_loop.trips) (v108 : BitVec 32) : Prop :=
  (∀ (k0_h2 : k0_cond2 k0_t1 = 1#1), ∀ a, (k0_off13 v108) a + S1x16.size a ≤ S64x16.size a)
theorem k0_off13_inb : ∀ (k0_t1 : Fin k0_t1_loop.trips) (v108 : BitVec 32) (k0_hw1 : k0_chk1 k0_t1 v108), ∀ (k0_h2 : k0_cond2 k0_t1 = 1#1), ∀ a, (k0_off13 v108) a + S1x16.size a ≤ S64x16.size a := fun k0_t1 v108 k0_hw1 k0_h2 => k0_hw1 k0_h2

def k0_off14 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v112 : Index := Scalar.indexCast v70
  let c64 : Index := 64#32
  ![v112.toNat, 64]
def k0_off15 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v120 : Index := Scalar.indexCast v117
  let c0_76 : Index := 0#32
  ![v120.toNat, 0]
def k0_off16 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v123 : Index := Scalar.indexCast v117
  let c0_77 : Index := 0#32
  ![v123.toNat, 0]
def k0_off17 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v129 : Index := Scalar.indexCast v117
  let c16_80 : Index := 16#32
  ![v129.toNat, 16]
def k0_off18 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v132 : Index := Scalar.indexCast v117
  let c16_81 : Index := 16#32
  ![v132.toNat, 16]
def k0_off19 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v138 : Index := Scalar.indexCast v117
  let c32_84 : Index := 32#32
  ![v138.toNat, 32]
def k0_off20 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v141 : Index := Scalar.indexCast v117
  let c32_85 : Index := 32#32
  ![v141.toNat, 32]
def k0_off21 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v147 : Index := Scalar.indexCast v117
  let c48_88 : Index := 48#32
  ![v147.toNat, 48]
def k0_off22 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v150 : Index := Scalar.indexCast v117
  let c48_89 : Index := 48#32
  ![v150.toNat, 48]
def k0_off23 (v155 : BitVec 32) : Fin 2 → Nat :=
  let v156 : Index := Scalar.indexCast v155
  let c0_90 : Index := 0#32
  ![v156.toNat, 0]

def k0_chk2 (k0_t1 : Fin k0_t1_loop.trips) (v155 : BitVec 32) : Prop :=
  (∀ (k0_h2 : k0_cond2 k0_t1 = 1#1), ∀ a, (k0_off23 v155) a + S1x16.size a ≤ S64x16.size a)
theorem k0_off23_inb : ∀ (k0_t1 : Fin k0_t1_loop.trips) (v155 : BitVec 32) (k0_hw2 : k0_chk2 k0_t1 v155), ∀ (k0_h2 : k0_cond2 k0_t1 = 1#1), ∀ a, (k0_off23 v155) a + S1x16.size a ≤ S64x16.size a := fun k0_t1 v155 k0_hw2 k0_h2 => k0_hw2 k0_h2

def k0_off24 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v159 : Index := Scalar.indexCast v117
  let c64_91 : Index := 64#32
  ![v159.toNat, 64]
def k0_off25 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v167 : Index := Scalar.indexCast v164
  let c0_96 : Index := 0#32
  ![v167.toNat, 0]
def k0_off26 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v170 : Index := Scalar.indexCast v164
  let c0_97 : Index := 0#32
  ![v170.toNat, 0]
def k0_off27 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v176 : Index := Scalar.indexCast v164
  let c16_100 : Index := 16#32
  ![v176.toNat, 16]
def k0_off28 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v179 : Index := Scalar.indexCast v164
  let c16_101 : Index := 16#32
  ![v179.toNat, 16]
def k0_off29 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v185 : Index := Scalar.indexCast v164
  let c32_104 : Index := 32#32
  ![v185.toNat, 32]
def k0_off30 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v188 : Index := Scalar.indexCast v164
  let c32_105 : Index := 32#32
  ![v188.toNat, 32]
def k0_off31 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v194 : Index := Scalar.indexCast v164
  let c48_108 : Index := 48#32
  ![v194.toNat, 48]
def k0_off32 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v197 : Index := Scalar.indexCast v164
  let c48_109 : Index := 48#32
  ![v197.toNat, 48]
def k0_off33 (v202 : BitVec 32) : Fin 2 → Nat :=
  let v203 : Index := Scalar.indexCast v202
  let c0_110 : Index := 0#32
  ![v203.toNat, 0]

def k0_chk3 (k0_t1 : Fin k0_t1_loop.trips) (v202 : BitVec 32) : Prop :=
  (∀ (k0_h2 : k0_cond2 k0_t1 = 1#1), ∀ a, (k0_off33 v202) a + S1x16.size a ≤ S64x16.size a)
theorem k0_off33_inb : ∀ (k0_t1 : Fin k0_t1_loop.trips) (v202 : BitVec 32) (k0_hw3 : k0_chk3 k0_t1 v202), ∀ (k0_h2 : k0_cond2 k0_t1 = 1#1), ∀ a, (k0_off33 v202) a + S1x16.size a ≤ S64x16.size a := fun k0_t1 v202 k0_hw3 k0_h2 => k0_hw3 k0_h2

def k0_off34 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v206 : Index := Scalar.indexCast v164
  let c64_111 : Index := 64#32
  ![v206.toNat, 64]
def k0_off35 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v214 : Index := Scalar.indexCast v211
  let c0_116 : Index := 0#32
  ![v214.toNat, 0]
def k0_off36 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v217 : Index := Scalar.indexCast v211
  let c0_117 : Index := 0#32
  ![v217.toNat, 0]
def k0_off37 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v223 : Index := Scalar.indexCast v211
  let c16_120 : Index := 16#32
  ![v223.toNat, 16]
def k0_off38 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v226 : Index := Scalar.indexCast v211
  let c16_121 : Index := 16#32
  ![v226.toNat, 16]
def k0_off39 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v232 : Index := Scalar.indexCast v211
  let c32_124 : Index := 32#32
  ![v232.toNat, 32]
def k0_off40 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v235 : Index := Scalar.indexCast v211
  let c32_125 : Index := 32#32
  ![v235.toNat, 32]
def k0_off41 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v241 : Index := Scalar.indexCast v211
  let c48_128 : Index := 48#32
  ![v241.toNat, 48]
def k0_off42 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v244 : Index := Scalar.indexCast v211
  let c48_129 : Index := 48#32
  ![v244.toNat, 48]
def k0_off43 (v249 : BitVec 32) : Fin 2 → Nat :=
  let v250 : Index := Scalar.indexCast v249
  let c0_130 : Index := 0#32
  ![v250.toNat, 0]

def k0_chk4 (k0_t1 : Fin k0_t1_loop.trips) (v249 : BitVec 32) : Prop :=
  (∀ (k0_h2 : k0_cond2 k0_t1 = 1#1), ∀ a, (k0_off43 v249) a + S1x16.size a ≤ S64x16.size a)
theorem k0_off43_inb : ∀ (k0_t1 : Fin k0_t1_loop.trips) (v249 : BitVec 32) (k0_hw4 : k0_chk4 k0_t1 v249), ∀ (k0_h2 : k0_cond2 k0_t1 = 1#1), ∀ a, (k0_off43 v249) a + S1x16.size a ≤ S64x16.size a := fun k0_t1 v249 k0_hw4 k0_h2 => k0_hw4 k0_h2

def k0_off44 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v253 : Index := Scalar.indexCast v211
  let c64_131 : Index := 64#32
  ![v253.toNat, 64]
def k0_off45 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v261 : Index := Scalar.indexCast v258
  let c0_136 : Index := 0#32
  ![v261.toNat, 0]
def k0_off46 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v264 : Index := Scalar.indexCast v258
  let c0_137 : Index := 0#32
  ![v264.toNat, 0]
def k0_off47 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v270 : Index := Scalar.indexCast v258
  let c16_140 : Index := 16#32
  ![v270.toNat, 16]
def k0_off48 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v273 : Index := Scalar.indexCast v258
  let c16_141 : Index := 16#32
  ![v273.toNat, 16]
def k0_off49 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v279 : Index := Scalar.indexCast v258
  let c32_144 : Index := 32#32
  ![v279.toNat, 32]
def k0_off50 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v282 : Index := Scalar.indexCast v258
  let c32_145 : Index := 32#32
  ![v282.toNat, 32]
def k0_off51 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v288 : Index := Scalar.indexCast v258
  let c48_148 : Index := 48#32
  ![v288.toNat, 48]
def k0_off52 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v291 : Index := Scalar.indexCast v258
  let c48_149 : Index := 48#32
  ![v291.toNat, 48]
def k0_off53 (v296 : BitVec 32) : Fin 2 → Nat :=
  let v297 : Index := Scalar.indexCast v296
  let c0_150 : Index := 0#32
  ![v297.toNat, 0]

def k0_chk5 (k0_t1 : Fin k0_t1_loop.trips) (v296 : BitVec 32) : Prop :=
  (∀ (k0_h2 : k0_cond2 k0_t1 = 1#1), ∀ a, (k0_off53 v296) a + S1x16.size a ≤ S64x16.size a)
theorem k0_off53_inb : ∀ (k0_t1 : Fin k0_t1_loop.trips) (v296 : BitVec 32) (k0_hw5 : k0_chk5 k0_t1 v296), ∀ (k0_h2 : k0_cond2 k0_t1 = 1#1), ∀ a, (k0_off53 v296) a + S1x16.size a ≤ S64x16.size a := fun k0_t1 v296 k0_hw5 k0_h2 => k0_hw5 k0_h2

def k0_off54 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v300 : Index := Scalar.indexCast v258
  let c64_151 : Index := 64#32
  ![v300.toNat, 64]
def k0_off55 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v308 : Index := Scalar.indexCast v305
  let c0_155 : Index := 0#32
  ![v308.toNat, 0]
def k0_off56 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v311 : Index := Scalar.indexCast v305
  let c0_156 : Index := 0#32
  ![v311.toNat, 0]
def k0_off57 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v317 : Index := Scalar.indexCast v305
  let c16_159 : Index := 16#32
  ![v317.toNat, 16]
def k0_off58 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v320 : Index := Scalar.indexCast v305
  let c16_160 : Index := 16#32
  ![v320.toNat, 16]
def k0_off59 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v326 : Index := Scalar.indexCast v305
  let c32_163 : Index := 32#32
  ![v326.toNat, 32]
def k0_off60 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v329 : Index := Scalar.indexCast v305
  let c32_164 : Index := 32#32
  ![v329.toNat, 32]
def k0_off61 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v335 : Index := Scalar.indexCast v305
  let c48_167 : Index := 48#32
  ![v335.toNat, 48]
def k0_off62 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v338 : Index := Scalar.indexCast v305
  let c48_168 : Index := 48#32
  ![v338.toNat, 48]
def k0_off63 (v343 : BitVec 32) : Fin 2 → Nat :=
  let v344 : Index := Scalar.indexCast v343
  let c0_169 : Index := 0#32
  ![v344.toNat, 0]

def k0_chk6 (k0_t1 : Fin k0_t1_loop.trips) (v343 : BitVec 32) : Prop :=
  (∀ (k0_h2 : k0_cond2 k0_t1 = 1#1), ∀ a, (k0_off63 v343) a + S1x16.size a ≤ S64x16.size a)
theorem k0_off63_inb : ∀ (k0_t1 : Fin k0_t1_loop.trips) (v343 : BitVec 32) (k0_hw6 : k0_chk6 k0_t1 v343), ∀ (k0_h2 : k0_cond2 k0_t1 = 1#1), ∀ a, (k0_off63 v343) a + S1x16.size a ≤ S64x16.size a := fun k0_t1 v343 k0_hw6 k0_h2 => k0_hw6 k0_h2

def k0_off64 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v347 : Index := Scalar.indexCast v305
  let c64_170 : Index := 64#32
  ![v347.toNat, 64]
def k0_off65 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v355 : Index := Scalar.indexCast v352
  let c0_174 : Index := 0#32
  ![v355.toNat, 0]
def k0_off66 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v358 : Index := Scalar.indexCast v352
  let c0_175 : Index := 0#32
  ![v358.toNat, 0]
def k0_off67 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v364 : Index := Scalar.indexCast v352
  let c16_178 : Index := 16#32
  ![v364.toNat, 16]
def k0_off68 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v367 : Index := Scalar.indexCast v352
  let c16_179 : Index := 16#32
  ![v367.toNat, 16]
def k0_off69 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v373 : Index := Scalar.indexCast v352
  let c32_182 : Index := 32#32
  ![v373.toNat, 32]
def k0_off70 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v376 : Index := Scalar.indexCast v352
  let c32_183 : Index := 32#32
  ![v376.toNat, 32]
def k0_off71 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v382 : Index := Scalar.indexCast v352
  let c48_186 : Index := 48#32
  ![v382.toNat, 48]
def k0_off72 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v385 : Index := Scalar.indexCast v352
  let c48_187 : Index := 48#32
  ![v385.toNat, 48]
def k0_off73 (v390 : BitVec 32) : Fin 2 → Nat :=
  let v391 : Index := Scalar.indexCast v390
  let c0_188 : Index := 0#32
  ![v391.toNat, 0]

def k0_chk7 (k0_t1 : Fin k0_t1_loop.trips) (v390 : BitVec 32) : Prop :=
  (∀ (k0_h2 : k0_cond2 k0_t1 = 1#1), ∀ a, (k0_off73 v390) a + S1x16.size a ≤ S64x16.size a)
theorem k0_off73_inb : ∀ (k0_t1 : Fin k0_t1_loop.trips) (v390 : BitVec 32) (k0_hw7 : k0_chk7 k0_t1 v390), ∀ (k0_h2 : k0_cond2 k0_t1 = 1#1), ∀ a, (k0_off73 v390) a + S1x16.size a ≤ S64x16.size a := fun k0_t1 v390 k0_hw7 k0_h2 => k0_hw7 k0_h2

def k0_off74 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v394 : Index := Scalar.indexCast v352
  let c64_189 : Index := 64#32
  ![v394.toNat, 64]
def k0_off75 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v402 : Index := Scalar.indexCast v399
  let c0_193 : Index := 0#32
  ![v402.toNat, 0]
def k0_off76 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v405 : Index := Scalar.indexCast v399
  let c0_194 : Index := 0#32
  ![v405.toNat, 0]
def k0_off77 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v411 : Index := Scalar.indexCast v399
  let c16_197 : Index := 16#32
  ![v411.toNat, 16]
def k0_off78 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v414 : Index := Scalar.indexCast v399
  let c16_198 : Index := 16#32
  ![v414.toNat, 16]
def k0_off79 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v420 : Index := Scalar.indexCast v399
  let c32_201 : Index := 32#32
  ![v420.toNat, 32]
def k0_off80 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v423 : Index := Scalar.indexCast v399
  let c32_202 : Index := 32#32
  ![v423.toNat, 32]
def k0_off81 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v429 : Index := Scalar.indexCast v399
  let c48_205 : Index := 48#32
  ![v429.toNat, 48]
def k0_off82 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v432 : Index := Scalar.indexCast v399
  let c48_206 : Index := 48#32
  ![v432.toNat, 48]
def k0_off83 (v437 : BitVec 32) : Fin 2 → Nat :=
  let v438 : Index := Scalar.indexCast v437
  let c0_207 : Index := 0#32
  ![v438.toNat, 0]

def k0_chk8 (k0_t1 : Fin k0_t1_loop.trips) (v437 : BitVec 32) : Prop :=
  (∀ (k0_h2 : k0_cond2 k0_t1 = 1#1), ∀ a, (k0_off83 v437) a + S1x16.size a ≤ S64x16.size a)
theorem k0_off83_inb : ∀ (k0_t1 : Fin k0_t1_loop.trips) (v437 : BitVec 32) (k0_hw8 : k0_chk8 k0_t1 v437), ∀ (k0_h2 : k0_cond2 k0_t1 = 1#1), ∀ a, (k0_off83 v437) a + S1x16.size a ≤ S64x16.size a := fun k0_t1 v437 k0_hw8 k0_h2 => k0_hw8 k0_h2

def k0_off84 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v441 : Index := Scalar.indexCast v399
  let c64_208 : Index := 64#32
  ![v441.toNat, 64]
def k0_off85 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v449 : Index := Scalar.indexCast v446
  let c0_213 : Index := 0#32
  ![v449.toNat, 0]
def k0_off86 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v452 : Index := Scalar.indexCast v446
  let c0_214 : Index := 0#32
  ![v452.toNat, 0]
def k0_off87 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v458 : Index := Scalar.indexCast v446
  let c16_217 : Index := 16#32
  ![v458.toNat, 16]
def k0_off88 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v461 : Index := Scalar.indexCast v446
  let c16_218 : Index := 16#32
  ![v461.toNat, 16]
def k0_off89 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v467 : Index := Scalar.indexCast v446
  let c32_221 : Index := 32#32
  ![v467.toNat, 32]
def k0_off90 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v470 : Index := Scalar.indexCast v446
  let c32_222 : Index := 32#32
  ![v470.toNat, 32]
def k0_off91 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v476 : Index := Scalar.indexCast v446
  let c48_225 : Index := 48#32
  ![v476.toNat, 48]
def k0_off92 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v479 : Index := Scalar.indexCast v446
  let c48_226 : Index := 48#32
  ![v479.toNat, 48]
def k0_off93 (v484 : BitVec 32) : Fin 2 → Nat :=
  let v485 : Index := Scalar.indexCast v484
  let c0_227 : Index := 0#32
  ![v485.toNat, 0]

def k0_chk9 (k0_t1 : Fin k0_t1_loop.trips) (v484 : BitVec 32) : Prop :=
  (∀ (k0_h2 : k0_cond2 k0_t1 = 1#1), ∀ a, (k0_off93 v484) a + S1x16.size a ≤ S64x16.size a)
theorem k0_off93_inb : ∀ (k0_t1 : Fin k0_t1_loop.trips) (v484 : BitVec 32) (k0_hw9 : k0_chk9 k0_t1 v484), ∀ (k0_h2 : k0_cond2 k0_t1 = 1#1), ∀ a, (k0_off93 v484) a + S1x16.size a ≤ S64x16.size a := fun k0_t1 v484 k0_hw9 k0_h2 => k0_hw9 k0_h2

def k0_off94 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v488 : Index := Scalar.indexCast v446
  let c64_228 : Index := 64#32
  ![v488.toNat, 64]
def k0_off95 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v496 : Index := Scalar.indexCast v493
  let c0_232 : Index := 0#32
  ![v496.toNat, 0]
def k0_off96 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v499 : Index := Scalar.indexCast v493
  let c0_233 : Index := 0#32
  ![v499.toNat, 0]
def k0_off97 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v505 : Index := Scalar.indexCast v493
  let c16_236 : Index := 16#32
  ![v505.toNat, 16]
def k0_off98 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v508 : Index := Scalar.indexCast v493
  let c16_237 : Index := 16#32
  ![v508.toNat, 16]
def k0_off99 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v514 : Index := Scalar.indexCast v493
  let c32_240 : Index := 32#32
  ![v514.toNat, 32]
def k0_off100 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v517 : Index := Scalar.indexCast v493
  let c32_241 : Index := 32#32
  ![v517.toNat, 32]
def k0_off101 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v523 : Index := Scalar.indexCast v493
  let c48_244 : Index := 48#32
  ![v523.toNat, 48]
def k0_off102 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v526 : Index := Scalar.indexCast v493
  let c48_245 : Index := 48#32
  ![v526.toNat, 48]
def k0_off103 (v531 : BitVec 32) : Fin 2 → Nat :=
  let v532 : Index := Scalar.indexCast v531
  let c0_246 : Index := 0#32
  ![v532.toNat, 0]

def k0_chk10 (k0_t1 : Fin k0_t1_loop.trips) (v531 : BitVec 32) : Prop :=
  (∀ (k0_h2 : k0_cond2 k0_t1 = 1#1), ∀ a, (k0_off103 v531) a + S1x16.size a ≤ S64x16.size a)
theorem k0_off103_inb : ∀ (k0_t1 : Fin k0_t1_loop.trips) (v531 : BitVec 32) (k0_hw10 : k0_chk10 k0_t1 v531), ∀ (k0_h2 : k0_cond2 k0_t1 = 1#1), ∀ a, (k0_off103 v531) a + S1x16.size a ≤ S64x16.size a := fun k0_t1 v531 k0_hw10 k0_h2 => k0_hw10 k0_h2

def k0_off104 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v535 : Index := Scalar.indexCast v493
  let c64_247 : Index := 64#32
  ![v535.toNat, 64]
def k0_off105 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v543 : Index := Scalar.indexCast v540
  let c0_251 : Index := 0#32
  ![v543.toNat, 0]
def k0_off106 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v546 : Index := Scalar.indexCast v540
  let c0_252 : Index := 0#32
  ![v546.toNat, 0]
def k0_off107 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v552 : Index := Scalar.indexCast v540
  let c16_255 : Index := 16#32
  ![v552.toNat, 16]
def k0_off108 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v555 : Index := Scalar.indexCast v540
  let c16_256 : Index := 16#32
  ![v555.toNat, 16]
def k0_off109 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v561 : Index := Scalar.indexCast v540
  let c32_259 : Index := 32#32
  ![v561.toNat, 32]
def k0_off110 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v564 : Index := Scalar.indexCast v540
  let c32_260 : Index := 32#32
  ![v564.toNat, 32]
def k0_off111 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v570 : Index := Scalar.indexCast v540
  let c48_263 : Index := 48#32
  ![v570.toNat, 48]
def k0_off112 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v573 : Index := Scalar.indexCast v540
  let c48_264 : Index := 48#32
  ![v573.toNat, 48]
def k0_off113 (v578 : BitVec 32) : Fin 2 → Nat :=
  let v579 : Index := Scalar.indexCast v578
  let c0_265 : Index := 0#32
  ![v579.toNat, 0]

def k0_chk11 (k0_t1 : Fin k0_t1_loop.trips) (v578 : BitVec 32) : Prop :=
  (∀ (k0_h2 : k0_cond2 k0_t1 = 1#1), ∀ a, (k0_off113 v578) a + S1x16.size a ≤ S64x16.size a)
theorem k0_off113_inb : ∀ (k0_t1 : Fin k0_t1_loop.trips) (v578 : BitVec 32) (k0_hw11 : k0_chk11 k0_t1 v578), ∀ (k0_h2 : k0_cond2 k0_t1 = 1#1), ∀ a, (k0_off113 v578) a + S1x16.size a ≤ S64x16.size a := fun k0_t1 v578 k0_hw11 k0_h2 => k0_hw11 k0_h2

def k0_off114 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v582 : Index := Scalar.indexCast v540
  let c64_266 : Index := 64#32
  ![v582.toNat, 64]
def k0_off115 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v590 : Index := Scalar.indexCast v587
  let c0_270 : Index := 0#32
  ![v590.toNat, 0]
def k0_off116 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v593 : Index := Scalar.indexCast v587
  let c0_271 : Index := 0#32
  ![v593.toNat, 0]
def k0_off117 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v599 : Index := Scalar.indexCast v587
  let c16_274 : Index := 16#32
  ![v599.toNat, 16]
def k0_off118 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v602 : Index := Scalar.indexCast v587
  let c16_275 : Index := 16#32
  ![v602.toNat, 16]
def k0_off119 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v608 : Index := Scalar.indexCast v587
  let c32_278 : Index := 32#32
  ![v608.toNat, 32]
def k0_off120 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v611 : Index := Scalar.indexCast v587
  let c32_279 : Index := 32#32
  ![v611.toNat, 32]
def k0_off121 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v617 : Index := Scalar.indexCast v587
  let c48_282 : Index := 48#32
  ![v617.toNat, 48]
def k0_off122 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v620 : Index := Scalar.indexCast v587
  let c48_283 : Index := 48#32
  ![v620.toNat, 48]
def k0_off123 (v625 : BitVec 32) : Fin 2 → Nat :=
  let v626 : Index := Scalar.indexCast v625
  let c0_284 : Index := 0#32
  ![v626.toNat, 0]

def k0_chk12 (k0_t1 : Fin k0_t1_loop.trips) (v625 : BitVec 32) : Prop :=
  (∀ (k0_h2 : k0_cond2 k0_t1 = 1#1), ∀ a, (k0_off123 v625) a + S1x16.size a ≤ S64x16.size a)
theorem k0_off123_inb : ∀ (k0_t1 : Fin k0_t1_loop.trips) (v625 : BitVec 32) (k0_hw12 : k0_chk12 k0_t1 v625), ∀ (k0_h2 : k0_cond2 k0_t1 = 1#1), ∀ a, (k0_off123 v625) a + S1x16.size a ≤ S64x16.size a := fun k0_t1 v625 k0_hw12 k0_h2 => k0_hw12 k0_h2

def k0_off124 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v629 : Index := Scalar.indexCast v587
  let c64_285 : Index := 64#32
  ![v629.toNat, 64]
def k0_off125 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v637 : Index := Scalar.indexCast v634
  let c0_289 : Index := 0#32
  ![v637.toNat, 0]
def k0_off126 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v640 : Index := Scalar.indexCast v634
  let c0_290 : Index := 0#32
  ![v640.toNat, 0]
def k0_off127 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v646 : Index := Scalar.indexCast v634
  let c16_293 : Index := 16#32
  ![v646.toNat, 16]
def k0_off128 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v649 : Index := Scalar.indexCast v634
  let c16_294 : Index := 16#32
  ![v649.toNat, 16]
def k0_off129 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v655 : Index := Scalar.indexCast v634
  let c32_297 : Index := 32#32
  ![v655.toNat, 32]
def k0_off130 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v658 : Index := Scalar.indexCast v634
  let c32_298 : Index := 32#32
  ![v658.toNat, 32]
def k0_off131 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v664 : Index := Scalar.indexCast v634
  let c48_301 : Index := 48#32
  ![v664.toNat, 48]
def k0_off132 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v667 : Index := Scalar.indexCast v634
  let c48_302 : Index := 48#32
  ![v667.toNat, 48]
def k0_off133 (v672 : BitVec 32) : Fin 2 → Nat :=
  let v673 : Index := Scalar.indexCast v672
  let c0_303 : Index := 0#32
  ![v673.toNat, 0]

def k0_chk13 (k0_t1 : Fin k0_t1_loop.trips) (v672 : BitVec 32) : Prop :=
  (∀ (k0_h2 : k0_cond2 k0_t1 = 1#1), ∀ a, (k0_off133 v672) a + S1x16.size a ≤ S64x16.size a)
theorem k0_off133_inb : ∀ (k0_t1 : Fin k0_t1_loop.trips) (v672 : BitVec 32) (k0_hw13 : k0_chk13 k0_t1 v672), ∀ (k0_h2 : k0_cond2 k0_t1 = 1#1), ∀ a, (k0_off133 v672) a + S1x16.size a ≤ S64x16.size a := fun k0_t1 v672 k0_hw13 k0_h2 => k0_hw13 k0_h2

def k0_off134 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v676 : Index := Scalar.indexCast v634
  let c64_304 : Index := 64#32
  ![v676.toNat, 64]
def k0_off135 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v684 : Index := Scalar.indexCast v681
  let c0_309 : Index := 0#32
  ![v684.toNat, 0]
def k0_off136 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v687 : Index := Scalar.indexCast v681
  let c0_310 : Index := 0#32
  ![v687.toNat, 0]
def k0_off137 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v693 : Index := Scalar.indexCast v681
  let c16_313 : Index := 16#32
  ![v693.toNat, 16]
def k0_off138 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v696 : Index := Scalar.indexCast v681
  let c16_314 : Index := 16#32
  ![v696.toNat, 16]
def k0_off139 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v702 : Index := Scalar.indexCast v681
  let c32_317 : Index := 32#32
  ![v702.toNat, 32]
def k0_off140 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v705 : Index := Scalar.indexCast v681
  let c32_318 : Index := 32#32
  ![v705.toNat, 32]
def k0_off141 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v711 : Index := Scalar.indexCast v681
  let c48_321 : Index := 48#32
  ![v711.toNat, 48]
def k0_off142 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v714 : Index := Scalar.indexCast v681
  let c48_322 : Index := 48#32
  ![v714.toNat, 48]
def k0_off143 (v719 : BitVec 32) : Fin 2 → Nat :=
  let v720 : Index := Scalar.indexCast v719
  let c0_323 : Index := 0#32
  ![v720.toNat, 0]

def k0_chk14 (k0_t1 : Fin k0_t1_loop.trips) (v719 : BitVec 32) : Prop :=
  (∀ (k0_h2 : k0_cond2 k0_t1 = 1#1), ∀ a, (k0_off143 v719) a + S1x16.size a ≤ S64x16.size a)
theorem k0_off143_inb : ∀ (k0_t1 : Fin k0_t1_loop.trips) (v719 : BitVec 32) (k0_hw14 : k0_chk14 k0_t1 v719), ∀ (k0_h2 : k0_cond2 k0_t1 = 1#1), ∀ a, (k0_off143 v719) a + S1x16.size a ≤ S64x16.size a := fun k0_t1 v719 k0_hw14 k0_h2 => k0_hw14 k0_h2

def k0_off144 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v723 : Index := Scalar.indexCast v681
  let c64_324 : Index := 64#32
  ![v723.toNat, 64]
def k0_off145 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v731 : Index := Scalar.indexCast v728
  let c0_328 : Index := 0#32
  ![v731.toNat, 0]
def k0_off146 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v734 : Index := Scalar.indexCast v728
  let c0_329 : Index := 0#32
  ![v734.toNat, 0]
def k0_off147 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v740 : Index := Scalar.indexCast v728
  let c16_332 : Index := 16#32
  ![v740.toNat, 16]
def k0_off148 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v743 : Index := Scalar.indexCast v728
  let c16_333 : Index := 16#32
  ![v743.toNat, 16]
def k0_off149 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v749 : Index := Scalar.indexCast v728
  let c32_336 : Index := 32#32
  ![v749.toNat, 32]
def k0_off150 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v752 : Index := Scalar.indexCast v728
  let c32_337 : Index := 32#32
  ![v752.toNat, 32]
def k0_off151 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v758 : Index := Scalar.indexCast v728
  let c48_340 : Index := 48#32
  ![v758.toNat, 48]
def k0_off152 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v761 : Index := Scalar.indexCast v728
  let c48_341 : Index := 48#32
  ![v761.toNat, 48]
def k0_off153 (v766 : BitVec 32) : Fin 2 → Nat :=
  let v767 : Index := Scalar.indexCast v766
  let c0_342 : Index := 0#32
  ![v767.toNat, 0]

def k0_chk15 (k0_t1 : Fin k0_t1_loop.trips) (v766 : BitVec 32) : Prop :=
  (∀ (k0_h2 : k0_cond2 k0_t1 = 1#1), ∀ a, (k0_off153 v766) a + S1x16.size a ≤ S64x16.size a)
theorem k0_off153_inb : ∀ (k0_t1 : Fin k0_t1_loop.trips) (v766 : BitVec 32) (k0_hw15 : k0_chk15 k0_t1 v766), ∀ (k0_h2 : k0_cond2 k0_t1 = 1#1), ∀ a, (k0_off153 v766) a + S1x16.size a ≤ S64x16.size a := fun k0_t1 v766 k0_hw15 k0_h2 => k0_hw15 k0_h2

def k0_off154 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v770 : Index := Scalar.indexCast v728
  let c64_343 : Index := 64#32
  ![v770.toNat, 64]
def k0_off155 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v778 : Index := Scalar.indexCast v775
  let c0_347 : Index := 0#32
  ![v778.toNat, 0]
def k0_off156 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v781 : Index := Scalar.indexCast v775
  let c0_348 : Index := 0#32
  ![v781.toNat, 0]
def k0_off157 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v787 : Index := Scalar.indexCast v775
  let c16_351 : Index := 16#32
  ![v787.toNat, 16]
def k0_off158 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v790 : Index := Scalar.indexCast v775
  let c16_352 : Index := 16#32
  ![v790.toNat, 16]
def k0_off159 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v796 : Index := Scalar.indexCast v775
  let c32_355 : Index := 32#32
  ![v796.toNat, 32]
def k0_off160 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v799 : Index := Scalar.indexCast v775
  let c32_356 : Index := 32#32
  ![v799.toNat, 32]
def k0_off161 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v805 : Index := Scalar.indexCast v775
  let c48_359 : Index := 48#32
  ![v805.toNat, 48]
def k0_off162 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v808 : Index := Scalar.indexCast v775
  let c48_360 : Index := 48#32
  ![v808.toNat, 48]
def k0_off163 (v813 : BitVec 32) : Fin 2 → Nat :=
  let v814 : Index := Scalar.indexCast v813
  let c0_361 : Index := 0#32
  ![v814.toNat, 0]

def k0_chk16 (k0_t1 : Fin k0_t1_loop.trips) (v813 : BitVec 32) : Prop :=
  (∀ (k0_h2 : k0_cond2 k0_t1 = 1#1), ∀ a, (k0_off163 v813) a + S1x16.size a ≤ S64x16.size a)
theorem k0_off163_inb : ∀ (k0_t1 : Fin k0_t1_loop.trips) (v813 : BitVec 32) (k0_hw16 : k0_chk16 k0_t1 v813), ∀ (k0_h2 : k0_cond2 k0_t1 = 1#1), ∀ a, (k0_off163 v813) a + S1x16.size a ≤ S64x16.size a := fun k0_t1 v813 k0_hw16 k0_h2 => k0_hw16 k0_h2

def k0_off164 (k0_t2 : Fin k0_t2_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t2
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v817 : Index := Scalar.indexCast v775
  let c64_362 : Index := 64#32
  ![v817.toNat, 64]
def k0_off165 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c0_i32_19 : BitVec 32 := 0#32
  let v19 : BitVec 32 := Scalar.addi v18 c0_i32_19
  let c128_i32_45 : BitVec 32 := 128#32
  let v55 : BitVec 32 := Scalar.muli v19 c128_i32_45
  let v61 : BitVec 32 := Scalar.addi v2 v55
  let c0_i32_55_r3 : BitVec 32 := 0#32
  ![v61.toNat, 0]
def k0_cond3 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c1_i32_25 : BitVec 32 := 1#32
  let v28 : BitVec 32 := Scalar.addi v18 c1_i32_25
  let c4_i32_26 : BitVec 32 := 4#32
  let v29 : BitVec 32 := Scalar.addi v28 c4_i32_26
  let c1_i32_27 : BitVec 32 := 1#32
  let v30 : BitVec 32 := Scalar.subi v29 c1_i32_27
  let c50_i32_28 : BitVec 32 := 50#32
  let v31 : BitVec 1 := Scalar.cmpi .slt v30 c50_i32_28
  let v32 : BitVec 32 := Scalar.extui v31
  let c0_i32_29 : BitVec 32 := 0#32
  let v33 : BitVec 1 := Scalar.cmpi .ne v32 c0_i32_29
  v33

def k0_off166 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c1_i32_25 : BitVec 32 := 1#32
  let v28 : BitVec 32 := Scalar.addi v18 c1_i32_25
  let c4_i32_45 : BitVec 32 := 4#32
  let v55 : BitVec 32 := Scalar.addi v28 c4_i32_45
  let c1_i32_46 : BitVec 32 := 1#32
  let v56 : BitVec 32 := Scalar.subi v55 c1_i32_46
  let c128_i32_47 : BitVec 32 := 128#32
  let v57 : BitVec 32 := Scalar.muli v56 c128_i32_47
  ![v57.toNat]
def k0_cond4 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c1_i32_25 : BitVec 32 := 1#32
  let v28 : BitVec 32 := Scalar.addi v18 c1_i32_25
  let c50_i32_30 : BitVec 32 := 50#32
  let v34 : BitVec 1 := Scalar.cmpi .slt v28 c50_i32_30
  let v35 : BitVec 32 := Scalar.extui v34
  let c0_i32_31 : BitVec 32 := 0#32
  let v36 : BitVec 1 := Scalar.cmpi .ne v35 c0_i32_31
  v36

def k0_off167 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c1_i32_25 : BitVec 32 := 1#32
  let v28 : BitVec 32 := Scalar.addi v18 c1_i32_25
  let c128_i32_45 : BitVec 32 := 128#32
  let v55 : BitVec 32 := Scalar.muli v28 c128_i32_45
  ![v55.toNat]
@[reducible] def k0_t3_loop : Scf.Loop 32 :=
  let c0_i32_52 : BitVec 32 := 0#32
  let c8_i32 : BitVec 32 := 8#32
  let v60 : BitVec 32 := Scalar.addi c0_i32_52 c8_i32
  let c1_i32_53 : BitVec 32 := 1#32
  ⟨c0_i32_52, v60, c1_i32_53⟩
def k0_off168 (k0_t1 : Fin k0_t1_loop.trips) (k0_t3 : Fin k0_t3_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c1_i32_25 : BitVec 32 := 1#32
  let v28 : BitVec 32 := Scalar.addi v18 c1_i32_25
  let c128_i32_45 : BitVec 32 := 128#32
  let v55 : BitVec 32 := Scalar.muli v28 c128_i32_45
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32 : BitVec 32 := 16#32
  let v64 : BitVec 32 := Scalar.muli v63 c16_i32
  let v65 : BitVec 32 := Scalar.addi v55 v64
  let v66 : Index := Scalar.indexCast v65
  ![v66.toNat]
def k0_off169 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v73 : Index := Scalar.indexCast v70
  let c0 : Index := 0#32
  ![v73.toNat, 0]
def k0_off170 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v76 : Index := Scalar.indexCast v70
  let c0_61 : Index := 0#32
  ![v76.toNat, 0]
def k0_off171 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v82 : Index := Scalar.indexCast v70
  let c16 : Index := 16#32
  ![v82.toNat, 16]
def k0_off172 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v85 : Index := Scalar.indexCast v70
  let c16_64 : Index := 16#32
  ![v85.toNat, 16]
def k0_off173 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v91 : Index := Scalar.indexCast v70
  let c32 : Index := 32#32
  ![v91.toNat, 32]
def k0_off174 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v94 : Index := Scalar.indexCast v70
  let c32_67 : Index := 32#32
  ![v94.toNat, 32]
def k0_off175 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v100 : Index := Scalar.indexCast v70
  let c48 : Index := 48#32
  ![v100.toNat, 48]
def k0_off176 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v103 : Index := Scalar.indexCast v70
  let c48_70 : Index := 48#32
  ![v103.toNat, 48]
def k0_off177 (v108 : BitVec 32) : Fin 2 → Nat :=
  let v109 : Index := Scalar.indexCast v108
  let c0_71 : Index := 0#32
  ![v109.toNat, 0]

def k0_chk17 (k0_t1 : Fin k0_t1_loop.trips) (v108 : BitVec 32) : Prop :=
  (∀ (k0_h4 : k0_cond4 k0_t1 = 1#1), ∀ a, (k0_off177 v108) a + S1x16.size a ≤ S64x16.size a)
theorem k0_off177_inb : ∀ (k0_t1 : Fin k0_t1_loop.trips) (v108 : BitVec 32) (k0_hw17 : k0_chk17 k0_t1 v108), ∀ (k0_h4 : k0_cond4 k0_t1 = 1#1), ∀ a, (k0_off177 v108) a + S1x16.size a ≤ S64x16.size a := fun k0_t1 v108 k0_hw17 k0_h4 => k0_hw17 k0_h4

def k0_off178 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v112 : Index := Scalar.indexCast v70
  let c64 : Index := 64#32
  ![v112.toNat, 64]
def k0_off179 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v120 : Index := Scalar.indexCast v117
  let c0_76 : Index := 0#32
  ![v120.toNat, 0]
def k0_off180 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v123 : Index := Scalar.indexCast v117
  let c0_77 : Index := 0#32
  ![v123.toNat, 0]
def k0_off181 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v129 : Index := Scalar.indexCast v117
  let c16_80 : Index := 16#32
  ![v129.toNat, 16]
def k0_off182 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v132 : Index := Scalar.indexCast v117
  let c16_81 : Index := 16#32
  ![v132.toNat, 16]
def k0_off183 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v138 : Index := Scalar.indexCast v117
  let c32_84 : Index := 32#32
  ![v138.toNat, 32]
def k0_off184 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v141 : Index := Scalar.indexCast v117
  let c32_85 : Index := 32#32
  ![v141.toNat, 32]
def k0_off185 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v147 : Index := Scalar.indexCast v117
  let c48_88 : Index := 48#32
  ![v147.toNat, 48]
def k0_off186 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v150 : Index := Scalar.indexCast v117
  let c48_89 : Index := 48#32
  ![v150.toNat, 48]
def k0_off187 (v155 : BitVec 32) : Fin 2 → Nat :=
  let v156 : Index := Scalar.indexCast v155
  let c0_90 : Index := 0#32
  ![v156.toNat, 0]

def k0_chk18 (k0_t1 : Fin k0_t1_loop.trips) (v155 : BitVec 32) : Prop :=
  (∀ (k0_h4 : k0_cond4 k0_t1 = 1#1), ∀ a, (k0_off187 v155) a + S1x16.size a ≤ S64x16.size a)
theorem k0_off187_inb : ∀ (k0_t1 : Fin k0_t1_loop.trips) (v155 : BitVec 32) (k0_hw18 : k0_chk18 k0_t1 v155), ∀ (k0_h4 : k0_cond4 k0_t1 = 1#1), ∀ a, (k0_off187 v155) a + S1x16.size a ≤ S64x16.size a := fun k0_t1 v155 k0_hw18 k0_h4 => k0_hw18 k0_h4

def k0_off188 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v159 : Index := Scalar.indexCast v117
  let c64_91 : Index := 64#32
  ![v159.toNat, 64]
def k0_off189 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v167 : Index := Scalar.indexCast v164
  let c0_96 : Index := 0#32
  ![v167.toNat, 0]
def k0_off190 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v170 : Index := Scalar.indexCast v164
  let c0_97 : Index := 0#32
  ![v170.toNat, 0]
def k0_off191 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v176 : Index := Scalar.indexCast v164
  let c16_100 : Index := 16#32
  ![v176.toNat, 16]
def k0_off192 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v179 : Index := Scalar.indexCast v164
  let c16_101 : Index := 16#32
  ![v179.toNat, 16]
def k0_off193 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v185 : Index := Scalar.indexCast v164
  let c32_104 : Index := 32#32
  ![v185.toNat, 32]
def k0_off194 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v188 : Index := Scalar.indexCast v164
  let c32_105 : Index := 32#32
  ![v188.toNat, 32]
def k0_off195 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v194 : Index := Scalar.indexCast v164
  let c48_108 : Index := 48#32
  ![v194.toNat, 48]
def k0_off196 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v197 : Index := Scalar.indexCast v164
  let c48_109 : Index := 48#32
  ![v197.toNat, 48]
def k0_off197 (v202 : BitVec 32) : Fin 2 → Nat :=
  let v203 : Index := Scalar.indexCast v202
  let c0_110 : Index := 0#32
  ![v203.toNat, 0]

def k0_chk19 (k0_t1 : Fin k0_t1_loop.trips) (v202 : BitVec 32) : Prop :=
  (∀ (k0_h4 : k0_cond4 k0_t1 = 1#1), ∀ a, (k0_off197 v202) a + S1x16.size a ≤ S64x16.size a)
theorem k0_off197_inb : ∀ (k0_t1 : Fin k0_t1_loop.trips) (v202 : BitVec 32) (k0_hw19 : k0_chk19 k0_t1 v202), ∀ (k0_h4 : k0_cond4 k0_t1 = 1#1), ∀ a, (k0_off197 v202) a + S1x16.size a ≤ S64x16.size a := fun k0_t1 v202 k0_hw19 k0_h4 => k0_hw19 k0_h4

def k0_off198 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v206 : Index := Scalar.indexCast v164
  let c64_111 : Index := 64#32
  ![v206.toNat, 64]
def k0_off199 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v214 : Index := Scalar.indexCast v211
  let c0_116 : Index := 0#32
  ![v214.toNat, 0]
def k0_off200 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v217 : Index := Scalar.indexCast v211
  let c0_117 : Index := 0#32
  ![v217.toNat, 0]
def k0_off201 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v223 : Index := Scalar.indexCast v211
  let c16_120 : Index := 16#32
  ![v223.toNat, 16]
def k0_off202 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v226 : Index := Scalar.indexCast v211
  let c16_121 : Index := 16#32
  ![v226.toNat, 16]
def k0_off203 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v232 : Index := Scalar.indexCast v211
  let c32_124 : Index := 32#32
  ![v232.toNat, 32]
def k0_off204 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v235 : Index := Scalar.indexCast v211
  let c32_125 : Index := 32#32
  ![v235.toNat, 32]
def k0_off205 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v241 : Index := Scalar.indexCast v211
  let c48_128 : Index := 48#32
  ![v241.toNat, 48]
def k0_off206 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v244 : Index := Scalar.indexCast v211
  let c48_129 : Index := 48#32
  ![v244.toNat, 48]
def k0_off207 (v249 : BitVec 32) : Fin 2 → Nat :=
  let v250 : Index := Scalar.indexCast v249
  let c0_130 : Index := 0#32
  ![v250.toNat, 0]

def k0_chk20 (k0_t1 : Fin k0_t1_loop.trips) (v249 : BitVec 32) : Prop :=
  (∀ (k0_h4 : k0_cond4 k0_t1 = 1#1), ∀ a, (k0_off207 v249) a + S1x16.size a ≤ S64x16.size a)
theorem k0_off207_inb : ∀ (k0_t1 : Fin k0_t1_loop.trips) (v249 : BitVec 32) (k0_hw20 : k0_chk20 k0_t1 v249), ∀ (k0_h4 : k0_cond4 k0_t1 = 1#1), ∀ a, (k0_off207 v249) a + S1x16.size a ≤ S64x16.size a := fun k0_t1 v249 k0_hw20 k0_h4 => k0_hw20 k0_h4

def k0_off208 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v253 : Index := Scalar.indexCast v211
  let c64_131 : Index := 64#32
  ![v253.toNat, 64]
def k0_off209 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v261 : Index := Scalar.indexCast v258
  let c0_136 : Index := 0#32
  ![v261.toNat, 0]
def k0_off210 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v264 : Index := Scalar.indexCast v258
  let c0_137 : Index := 0#32
  ![v264.toNat, 0]
def k0_off211 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v270 : Index := Scalar.indexCast v258
  let c16_140 : Index := 16#32
  ![v270.toNat, 16]
def k0_off212 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v273 : Index := Scalar.indexCast v258
  let c16_141 : Index := 16#32
  ![v273.toNat, 16]
def k0_off213 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v279 : Index := Scalar.indexCast v258
  let c32_144 : Index := 32#32
  ![v279.toNat, 32]
def k0_off214 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v282 : Index := Scalar.indexCast v258
  let c32_145 : Index := 32#32
  ![v282.toNat, 32]
def k0_off215 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v288 : Index := Scalar.indexCast v258
  let c48_148 : Index := 48#32
  ![v288.toNat, 48]
def k0_off216 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v291 : Index := Scalar.indexCast v258
  let c48_149 : Index := 48#32
  ![v291.toNat, 48]
def k0_off217 (v296 : BitVec 32) : Fin 2 → Nat :=
  let v297 : Index := Scalar.indexCast v296
  let c0_150 : Index := 0#32
  ![v297.toNat, 0]

def k0_chk21 (k0_t1 : Fin k0_t1_loop.trips) (v296 : BitVec 32) : Prop :=
  (∀ (k0_h4 : k0_cond4 k0_t1 = 1#1), ∀ a, (k0_off217 v296) a + S1x16.size a ≤ S64x16.size a)
theorem k0_off217_inb : ∀ (k0_t1 : Fin k0_t1_loop.trips) (v296 : BitVec 32) (k0_hw21 : k0_chk21 k0_t1 v296), ∀ (k0_h4 : k0_cond4 k0_t1 = 1#1), ∀ a, (k0_off217 v296) a + S1x16.size a ≤ S64x16.size a := fun k0_t1 v296 k0_hw21 k0_h4 => k0_hw21 k0_h4

def k0_off218 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v300 : Index := Scalar.indexCast v258
  let c64_151 : Index := 64#32
  ![v300.toNat, 64]
def k0_off219 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v308 : Index := Scalar.indexCast v305
  let c0_155 : Index := 0#32
  ![v308.toNat, 0]
def k0_off220 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v311 : Index := Scalar.indexCast v305
  let c0_156 : Index := 0#32
  ![v311.toNat, 0]
def k0_off221 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v317 : Index := Scalar.indexCast v305
  let c16_159 : Index := 16#32
  ![v317.toNat, 16]
def k0_off222 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v320 : Index := Scalar.indexCast v305
  let c16_160 : Index := 16#32
  ![v320.toNat, 16]
def k0_off223 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v326 : Index := Scalar.indexCast v305
  let c32_163 : Index := 32#32
  ![v326.toNat, 32]
def k0_off224 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v329 : Index := Scalar.indexCast v305
  let c32_164 : Index := 32#32
  ![v329.toNat, 32]
def k0_off225 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v335 : Index := Scalar.indexCast v305
  let c48_167 : Index := 48#32
  ![v335.toNat, 48]
def k0_off226 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v338 : Index := Scalar.indexCast v305
  let c48_168 : Index := 48#32
  ![v338.toNat, 48]
def k0_off227 (v343 : BitVec 32) : Fin 2 → Nat :=
  let v344 : Index := Scalar.indexCast v343
  let c0_169 : Index := 0#32
  ![v344.toNat, 0]

def k0_chk22 (k0_t1 : Fin k0_t1_loop.trips) (v343 : BitVec 32) : Prop :=
  (∀ (k0_h4 : k0_cond4 k0_t1 = 1#1), ∀ a, (k0_off227 v343) a + S1x16.size a ≤ S64x16.size a)
theorem k0_off227_inb : ∀ (k0_t1 : Fin k0_t1_loop.trips) (v343 : BitVec 32) (k0_hw22 : k0_chk22 k0_t1 v343), ∀ (k0_h4 : k0_cond4 k0_t1 = 1#1), ∀ a, (k0_off227 v343) a + S1x16.size a ≤ S64x16.size a := fun k0_t1 v343 k0_hw22 k0_h4 => k0_hw22 k0_h4

def k0_off228 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v347 : Index := Scalar.indexCast v305
  let c64_170 : Index := 64#32
  ![v347.toNat, 64]
def k0_off229 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v355 : Index := Scalar.indexCast v352
  let c0_174 : Index := 0#32
  ![v355.toNat, 0]
def k0_off230 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v358 : Index := Scalar.indexCast v352
  let c0_175 : Index := 0#32
  ![v358.toNat, 0]
def k0_off231 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v364 : Index := Scalar.indexCast v352
  let c16_178 : Index := 16#32
  ![v364.toNat, 16]
def k0_off232 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v367 : Index := Scalar.indexCast v352
  let c16_179 : Index := 16#32
  ![v367.toNat, 16]
def k0_off233 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v373 : Index := Scalar.indexCast v352
  let c32_182 : Index := 32#32
  ![v373.toNat, 32]
def k0_off234 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v376 : Index := Scalar.indexCast v352
  let c32_183 : Index := 32#32
  ![v376.toNat, 32]
def k0_off235 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v382 : Index := Scalar.indexCast v352
  let c48_186 : Index := 48#32
  ![v382.toNat, 48]
def k0_off236 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v385 : Index := Scalar.indexCast v352
  let c48_187 : Index := 48#32
  ![v385.toNat, 48]
def k0_off237 (v390 : BitVec 32) : Fin 2 → Nat :=
  let v391 : Index := Scalar.indexCast v390
  let c0_188 : Index := 0#32
  ![v391.toNat, 0]

def k0_chk23 (k0_t1 : Fin k0_t1_loop.trips) (v390 : BitVec 32) : Prop :=
  (∀ (k0_h4 : k0_cond4 k0_t1 = 1#1), ∀ a, (k0_off237 v390) a + S1x16.size a ≤ S64x16.size a)
theorem k0_off237_inb : ∀ (k0_t1 : Fin k0_t1_loop.trips) (v390 : BitVec 32) (k0_hw23 : k0_chk23 k0_t1 v390), ∀ (k0_h4 : k0_cond4 k0_t1 = 1#1), ∀ a, (k0_off237 v390) a + S1x16.size a ≤ S64x16.size a := fun k0_t1 v390 k0_hw23 k0_h4 => k0_hw23 k0_h4

def k0_off238 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v394 : Index := Scalar.indexCast v352
  let c64_189 : Index := 64#32
  ![v394.toNat, 64]
def k0_off239 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v402 : Index := Scalar.indexCast v399
  let c0_193 : Index := 0#32
  ![v402.toNat, 0]
def k0_off240 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v405 : Index := Scalar.indexCast v399
  let c0_194 : Index := 0#32
  ![v405.toNat, 0]
def k0_off241 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v411 : Index := Scalar.indexCast v399
  let c16_197 : Index := 16#32
  ![v411.toNat, 16]
def k0_off242 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v414 : Index := Scalar.indexCast v399
  let c16_198 : Index := 16#32
  ![v414.toNat, 16]
def k0_off243 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v420 : Index := Scalar.indexCast v399
  let c32_201 : Index := 32#32
  ![v420.toNat, 32]
def k0_off244 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v423 : Index := Scalar.indexCast v399
  let c32_202 : Index := 32#32
  ![v423.toNat, 32]
def k0_off245 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v429 : Index := Scalar.indexCast v399
  let c48_205 : Index := 48#32
  ![v429.toNat, 48]
def k0_off246 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v432 : Index := Scalar.indexCast v399
  let c48_206 : Index := 48#32
  ![v432.toNat, 48]
def k0_off247 (v437 : BitVec 32) : Fin 2 → Nat :=
  let v438 : Index := Scalar.indexCast v437
  let c0_207 : Index := 0#32
  ![v438.toNat, 0]

def k0_chk24 (k0_t1 : Fin k0_t1_loop.trips) (v437 : BitVec 32) : Prop :=
  (∀ (k0_h4 : k0_cond4 k0_t1 = 1#1), ∀ a, (k0_off247 v437) a + S1x16.size a ≤ S64x16.size a)
theorem k0_off247_inb : ∀ (k0_t1 : Fin k0_t1_loop.trips) (v437 : BitVec 32) (k0_hw24 : k0_chk24 k0_t1 v437), ∀ (k0_h4 : k0_cond4 k0_t1 = 1#1), ∀ a, (k0_off247 v437) a + S1x16.size a ≤ S64x16.size a := fun k0_t1 v437 k0_hw24 k0_h4 => k0_hw24 k0_h4

def k0_off248 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v441 : Index := Scalar.indexCast v399
  let c64_208 : Index := 64#32
  ![v441.toNat, 64]
def k0_off249 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v449 : Index := Scalar.indexCast v446
  let c0_213 : Index := 0#32
  ![v449.toNat, 0]
def k0_off250 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v452 : Index := Scalar.indexCast v446
  let c0_214 : Index := 0#32
  ![v452.toNat, 0]
def k0_off251 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v458 : Index := Scalar.indexCast v446
  let c16_217 : Index := 16#32
  ![v458.toNat, 16]
def k0_off252 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v461 : Index := Scalar.indexCast v446
  let c16_218 : Index := 16#32
  ![v461.toNat, 16]
def k0_off253 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v467 : Index := Scalar.indexCast v446
  let c32_221 : Index := 32#32
  ![v467.toNat, 32]
def k0_off254 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v470 : Index := Scalar.indexCast v446
  let c32_222 : Index := 32#32
  ![v470.toNat, 32]
def k0_off255 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v476 : Index := Scalar.indexCast v446
  let c48_225 : Index := 48#32
  ![v476.toNat, 48]
def k0_off256 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v479 : Index := Scalar.indexCast v446
  let c48_226 : Index := 48#32
  ![v479.toNat, 48]
def k0_off257 (v484 : BitVec 32) : Fin 2 → Nat :=
  let v485 : Index := Scalar.indexCast v484
  let c0_227 : Index := 0#32
  ![v485.toNat, 0]

def k0_chk25 (k0_t1 : Fin k0_t1_loop.trips) (v484 : BitVec 32) : Prop :=
  (∀ (k0_h4 : k0_cond4 k0_t1 = 1#1), ∀ a, (k0_off257 v484) a + S1x16.size a ≤ S64x16.size a)
theorem k0_off257_inb : ∀ (k0_t1 : Fin k0_t1_loop.trips) (v484 : BitVec 32) (k0_hw25 : k0_chk25 k0_t1 v484), ∀ (k0_h4 : k0_cond4 k0_t1 = 1#1), ∀ a, (k0_off257 v484) a + S1x16.size a ≤ S64x16.size a := fun k0_t1 v484 k0_hw25 k0_h4 => k0_hw25 k0_h4

def k0_off258 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v488 : Index := Scalar.indexCast v446
  let c64_228 : Index := 64#32
  ![v488.toNat, 64]
def k0_off259 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v496 : Index := Scalar.indexCast v493
  let c0_232 : Index := 0#32
  ![v496.toNat, 0]
def k0_off260 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v499 : Index := Scalar.indexCast v493
  let c0_233 : Index := 0#32
  ![v499.toNat, 0]
def k0_off261 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v505 : Index := Scalar.indexCast v493
  let c16_236 : Index := 16#32
  ![v505.toNat, 16]
def k0_off262 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v508 : Index := Scalar.indexCast v493
  let c16_237 : Index := 16#32
  ![v508.toNat, 16]
def k0_off263 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v514 : Index := Scalar.indexCast v493
  let c32_240 : Index := 32#32
  ![v514.toNat, 32]
def k0_off264 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v517 : Index := Scalar.indexCast v493
  let c32_241 : Index := 32#32
  ![v517.toNat, 32]
def k0_off265 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v523 : Index := Scalar.indexCast v493
  let c48_244 : Index := 48#32
  ![v523.toNat, 48]
def k0_off266 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v526 : Index := Scalar.indexCast v493
  let c48_245 : Index := 48#32
  ![v526.toNat, 48]
def k0_off267 (v531 : BitVec 32) : Fin 2 → Nat :=
  let v532 : Index := Scalar.indexCast v531
  let c0_246 : Index := 0#32
  ![v532.toNat, 0]

def k0_chk26 (k0_t1 : Fin k0_t1_loop.trips) (v531 : BitVec 32) : Prop :=
  (∀ (k0_h4 : k0_cond4 k0_t1 = 1#1), ∀ a, (k0_off267 v531) a + S1x16.size a ≤ S64x16.size a)
theorem k0_off267_inb : ∀ (k0_t1 : Fin k0_t1_loop.trips) (v531 : BitVec 32) (k0_hw26 : k0_chk26 k0_t1 v531), ∀ (k0_h4 : k0_cond4 k0_t1 = 1#1), ∀ a, (k0_off267 v531) a + S1x16.size a ≤ S64x16.size a := fun k0_t1 v531 k0_hw26 k0_h4 => k0_hw26 k0_h4

def k0_off268 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v535 : Index := Scalar.indexCast v493
  let c64_247 : Index := 64#32
  ![v535.toNat, 64]
def k0_off269 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v543 : Index := Scalar.indexCast v540
  let c0_251 : Index := 0#32
  ![v543.toNat, 0]
def k0_off270 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v546 : Index := Scalar.indexCast v540
  let c0_252 : Index := 0#32
  ![v546.toNat, 0]
def k0_off271 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v552 : Index := Scalar.indexCast v540
  let c16_255 : Index := 16#32
  ![v552.toNat, 16]
def k0_off272 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v555 : Index := Scalar.indexCast v540
  let c16_256 : Index := 16#32
  ![v555.toNat, 16]
def k0_off273 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v561 : Index := Scalar.indexCast v540
  let c32_259 : Index := 32#32
  ![v561.toNat, 32]
def k0_off274 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v564 : Index := Scalar.indexCast v540
  let c32_260 : Index := 32#32
  ![v564.toNat, 32]
def k0_off275 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v570 : Index := Scalar.indexCast v540
  let c48_263 : Index := 48#32
  ![v570.toNat, 48]
def k0_off276 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v573 : Index := Scalar.indexCast v540
  let c48_264 : Index := 48#32
  ![v573.toNat, 48]
def k0_off277 (v578 : BitVec 32) : Fin 2 → Nat :=
  let v579 : Index := Scalar.indexCast v578
  let c0_265 : Index := 0#32
  ![v579.toNat, 0]

def k0_chk27 (k0_t1 : Fin k0_t1_loop.trips) (v578 : BitVec 32) : Prop :=
  (∀ (k0_h4 : k0_cond4 k0_t1 = 1#1), ∀ a, (k0_off277 v578) a + S1x16.size a ≤ S64x16.size a)
theorem k0_off277_inb : ∀ (k0_t1 : Fin k0_t1_loop.trips) (v578 : BitVec 32) (k0_hw27 : k0_chk27 k0_t1 v578), ∀ (k0_h4 : k0_cond4 k0_t1 = 1#1), ∀ a, (k0_off277 v578) a + S1x16.size a ≤ S64x16.size a := fun k0_t1 v578 k0_hw27 k0_h4 => k0_hw27 k0_h4

def k0_off278 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v582 : Index := Scalar.indexCast v540
  let c64_266 : Index := 64#32
  ![v582.toNat, 64]
def k0_off279 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v590 : Index := Scalar.indexCast v587
  let c0_270 : Index := 0#32
  ![v590.toNat, 0]
def k0_off280 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v593 : Index := Scalar.indexCast v587
  let c0_271 : Index := 0#32
  ![v593.toNat, 0]
def k0_off281 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v599 : Index := Scalar.indexCast v587
  let c16_274 : Index := 16#32
  ![v599.toNat, 16]
def k0_off282 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v602 : Index := Scalar.indexCast v587
  let c16_275 : Index := 16#32
  ![v602.toNat, 16]
def k0_off283 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v608 : Index := Scalar.indexCast v587
  let c32_278 : Index := 32#32
  ![v608.toNat, 32]
def k0_off284 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v611 : Index := Scalar.indexCast v587
  let c32_279 : Index := 32#32
  ![v611.toNat, 32]
def k0_off285 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v617 : Index := Scalar.indexCast v587
  let c48_282 : Index := 48#32
  ![v617.toNat, 48]
def k0_off286 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v620 : Index := Scalar.indexCast v587
  let c48_283 : Index := 48#32
  ![v620.toNat, 48]
def k0_off287 (v625 : BitVec 32) : Fin 2 → Nat :=
  let v626 : Index := Scalar.indexCast v625
  let c0_284 : Index := 0#32
  ![v626.toNat, 0]

def k0_chk28 (k0_t1 : Fin k0_t1_loop.trips) (v625 : BitVec 32) : Prop :=
  (∀ (k0_h4 : k0_cond4 k0_t1 = 1#1), ∀ a, (k0_off287 v625) a + S1x16.size a ≤ S64x16.size a)
theorem k0_off287_inb : ∀ (k0_t1 : Fin k0_t1_loop.trips) (v625 : BitVec 32) (k0_hw28 : k0_chk28 k0_t1 v625), ∀ (k0_h4 : k0_cond4 k0_t1 = 1#1), ∀ a, (k0_off287 v625) a + S1x16.size a ≤ S64x16.size a := fun k0_t1 v625 k0_hw28 k0_h4 => k0_hw28 k0_h4

def k0_off288 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v629 : Index := Scalar.indexCast v587
  let c64_285 : Index := 64#32
  ![v629.toNat, 64]
def k0_off289 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v637 : Index := Scalar.indexCast v634
  let c0_289 : Index := 0#32
  ![v637.toNat, 0]
def k0_off290 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v640 : Index := Scalar.indexCast v634
  let c0_290 : Index := 0#32
  ![v640.toNat, 0]
def k0_off291 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v646 : Index := Scalar.indexCast v634
  let c16_293 : Index := 16#32
  ![v646.toNat, 16]
def k0_off292 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v649 : Index := Scalar.indexCast v634
  let c16_294 : Index := 16#32
  ![v649.toNat, 16]
def k0_off293 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v655 : Index := Scalar.indexCast v634
  let c32_297 : Index := 32#32
  ![v655.toNat, 32]
def k0_off294 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v658 : Index := Scalar.indexCast v634
  let c32_298 : Index := 32#32
  ![v658.toNat, 32]
def k0_off295 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v664 : Index := Scalar.indexCast v634
  let c48_301 : Index := 48#32
  ![v664.toNat, 48]
def k0_off296 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v667 : Index := Scalar.indexCast v634
  let c48_302 : Index := 48#32
  ![v667.toNat, 48]
def k0_off297 (v672 : BitVec 32) : Fin 2 → Nat :=
  let v673 : Index := Scalar.indexCast v672
  let c0_303 : Index := 0#32
  ![v673.toNat, 0]

def k0_chk29 (k0_t1 : Fin k0_t1_loop.trips) (v672 : BitVec 32) : Prop :=
  (∀ (k0_h4 : k0_cond4 k0_t1 = 1#1), ∀ a, (k0_off297 v672) a + S1x16.size a ≤ S64x16.size a)
theorem k0_off297_inb : ∀ (k0_t1 : Fin k0_t1_loop.trips) (v672 : BitVec 32) (k0_hw29 : k0_chk29 k0_t1 v672), ∀ (k0_h4 : k0_cond4 k0_t1 = 1#1), ∀ a, (k0_off297 v672) a + S1x16.size a ≤ S64x16.size a := fun k0_t1 v672 k0_hw29 k0_h4 => k0_hw29 k0_h4

def k0_off298 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v676 : Index := Scalar.indexCast v634
  let c64_304 : Index := 64#32
  ![v676.toNat, 64]
def k0_off299 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v684 : Index := Scalar.indexCast v681
  let c0_309 : Index := 0#32
  ![v684.toNat, 0]
def k0_off300 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v687 : Index := Scalar.indexCast v681
  let c0_310 : Index := 0#32
  ![v687.toNat, 0]
def k0_off301 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v693 : Index := Scalar.indexCast v681
  let c16_313 : Index := 16#32
  ![v693.toNat, 16]
def k0_off302 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v696 : Index := Scalar.indexCast v681
  let c16_314 : Index := 16#32
  ![v696.toNat, 16]
def k0_off303 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v702 : Index := Scalar.indexCast v681
  let c32_317 : Index := 32#32
  ![v702.toNat, 32]
def k0_off304 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v705 : Index := Scalar.indexCast v681
  let c32_318 : Index := 32#32
  ![v705.toNat, 32]
def k0_off305 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v711 : Index := Scalar.indexCast v681
  let c48_321 : Index := 48#32
  ![v711.toNat, 48]
def k0_off306 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v714 : Index := Scalar.indexCast v681
  let c48_322 : Index := 48#32
  ![v714.toNat, 48]
def k0_off307 (v719 : BitVec 32) : Fin 2 → Nat :=
  let v720 : Index := Scalar.indexCast v719
  let c0_323 : Index := 0#32
  ![v720.toNat, 0]

def k0_chk30 (k0_t1 : Fin k0_t1_loop.trips) (v719 : BitVec 32) : Prop :=
  (∀ (k0_h4 : k0_cond4 k0_t1 = 1#1), ∀ a, (k0_off307 v719) a + S1x16.size a ≤ S64x16.size a)
theorem k0_off307_inb : ∀ (k0_t1 : Fin k0_t1_loop.trips) (v719 : BitVec 32) (k0_hw30 : k0_chk30 k0_t1 v719), ∀ (k0_h4 : k0_cond4 k0_t1 = 1#1), ∀ a, (k0_off307 v719) a + S1x16.size a ≤ S64x16.size a := fun k0_t1 v719 k0_hw30 k0_h4 => k0_hw30 k0_h4

def k0_off308 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v723 : Index := Scalar.indexCast v681
  let c64_324 : Index := 64#32
  ![v723.toNat, 64]
def k0_off309 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v731 : Index := Scalar.indexCast v728
  let c0_328 : Index := 0#32
  ![v731.toNat, 0]
def k0_off310 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v734 : Index := Scalar.indexCast v728
  let c0_329 : Index := 0#32
  ![v734.toNat, 0]
def k0_off311 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v740 : Index := Scalar.indexCast v728
  let c16_332 : Index := 16#32
  ![v740.toNat, 16]
def k0_off312 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v743 : Index := Scalar.indexCast v728
  let c16_333 : Index := 16#32
  ![v743.toNat, 16]
def k0_off313 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v749 : Index := Scalar.indexCast v728
  let c32_336 : Index := 32#32
  ![v749.toNat, 32]
def k0_off314 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v752 : Index := Scalar.indexCast v728
  let c32_337 : Index := 32#32
  ![v752.toNat, 32]
def k0_off315 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v758 : Index := Scalar.indexCast v728
  let c48_340 : Index := 48#32
  ![v758.toNat, 48]
def k0_off316 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v761 : Index := Scalar.indexCast v728
  let c48_341 : Index := 48#32
  ![v761.toNat, 48]
def k0_off317 (v766 : BitVec 32) : Fin 2 → Nat :=
  let v767 : Index := Scalar.indexCast v766
  let c0_342 : Index := 0#32
  ![v767.toNat, 0]

def k0_chk31 (k0_t1 : Fin k0_t1_loop.trips) (v766 : BitVec 32) : Prop :=
  (∀ (k0_h4 : k0_cond4 k0_t1 = 1#1), ∀ a, (k0_off317 v766) a + S1x16.size a ≤ S64x16.size a)
theorem k0_off317_inb : ∀ (k0_t1 : Fin k0_t1_loop.trips) (v766 : BitVec 32) (k0_hw31 : k0_chk31 k0_t1 v766), ∀ (k0_h4 : k0_cond4 k0_t1 = 1#1), ∀ a, (k0_off317 v766) a + S1x16.size a ≤ S64x16.size a := fun k0_t1 v766 k0_hw31 k0_h4 => k0_hw31 k0_h4

def k0_off318 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v770 : Index := Scalar.indexCast v728
  let c64_343 : Index := 64#32
  ![v770.toNat, 64]
def k0_off319 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v778 : Index := Scalar.indexCast v775
  let c0_347 : Index := 0#32
  ![v778.toNat, 0]
def k0_off320 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v781 : Index := Scalar.indexCast v775
  let c0_348 : Index := 0#32
  ![v781.toNat, 0]
def k0_off321 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v787 : Index := Scalar.indexCast v775
  let c16_351 : Index := 16#32
  ![v787.toNat, 16]
def k0_off322 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v790 : Index := Scalar.indexCast v775
  let c16_352 : Index := 16#32
  ![v790.toNat, 16]
def k0_off323 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v796 : Index := Scalar.indexCast v775
  let c32_355 : Index := 32#32
  ![v796.toNat, 32]
def k0_off324 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v799 : Index := Scalar.indexCast v775
  let c32_356 : Index := 32#32
  ![v799.toNat, 32]
def k0_off325 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v805 : Index := Scalar.indexCast v775
  let c48_359 : Index := 48#32
  ![v805.toNat, 48]
def k0_off326 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v808 : Index := Scalar.indexCast v775
  let c48_360 : Index := 48#32
  ![v808.toNat, 48]
def k0_off327 (v813 : BitVec 32) : Fin 2 → Nat :=
  let v814 : Index := Scalar.indexCast v813
  let c0_361 : Index := 0#32
  ![v814.toNat, 0]

def k0_chk32 (k0_t1 : Fin k0_t1_loop.trips) (v813 : BitVec 32) : Prop :=
  (∀ (k0_h4 : k0_cond4 k0_t1 = 1#1), ∀ a, (k0_off327 v813) a + S1x16.size a ≤ S64x16.size a)
theorem k0_off327_inb : ∀ (k0_t1 : Fin k0_t1_loop.trips) (v813 : BitVec 32) (k0_hw32 : k0_chk32 k0_t1 v813), ∀ (k0_h4 : k0_cond4 k0_t1 = 1#1), ∀ a, (k0_off327 v813) a + S1x16.size a ≤ S64x16.size a := fun k0_t1 v813 k0_hw32 k0_h4 => k0_hw32 k0_h4

def k0_off328 (k0_t3 : Fin k0_t3_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t3
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v817 : Index := Scalar.indexCast v775
  let c64_362 : Index := 64#32
  ![v817.toNat, 64]
def k0_off329 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c1_i32_25 : BitVec 32 := 1#32
  let v28 : BitVec 32 := Scalar.addi v18 c1_i32_25
  let c128_i32_45 : BitVec 32 := 128#32
  let v55 : BitVec 32 := Scalar.muli v28 c128_i32_45
  let v61 : BitVec 32 := Scalar.addi v2 v55
  let c0_i32_55_r4 : BitVec 32 := 0#32
  ![v61.toNat, 0]
def k0_cond5 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c2_i32_32 : BitVec 32 := 2#32
  let v37 : BitVec 32 := Scalar.addi v18 c2_i32_32
  let c4_i32_33 : BitVec 32 := 4#32
  let v38 : BitVec 32 := Scalar.addi v37 c4_i32_33
  let c1_i32_34 : BitVec 32 := 1#32
  let v39 : BitVec 32 := Scalar.subi v38 c1_i32_34
  let c50_i32_35 : BitVec 32 := 50#32
  let v40 : BitVec 1 := Scalar.cmpi .slt v39 c50_i32_35
  let v41 : BitVec 32 := Scalar.extui v40
  let c0_i32_36 : BitVec 32 := 0#32
  let v42 : BitVec 1 := Scalar.cmpi .ne v41 c0_i32_36
  v42

def k0_off330 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c2_i32_32 : BitVec 32 := 2#32
  let v37 : BitVec 32 := Scalar.addi v18 c2_i32_32
  let c4_i32_45 : BitVec 32 := 4#32
  let v55 : BitVec 32 := Scalar.addi v37 c4_i32_45
  let c1_i32_46 : BitVec 32 := 1#32
  let v56 : BitVec 32 := Scalar.subi v55 c1_i32_46
  let c128_i32_47 : BitVec 32 := 128#32
  let v57 : BitVec 32 := Scalar.muli v56 c128_i32_47
  ![v57.toNat]
def k0_cond6 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c2_i32_32 : BitVec 32 := 2#32
  let v37 : BitVec 32 := Scalar.addi v18 c2_i32_32
  let c50_i32_37 : BitVec 32 := 50#32
  let v43 : BitVec 1 := Scalar.cmpi .slt v37 c50_i32_37
  let v44 : BitVec 32 := Scalar.extui v43
  let c0_i32_38 : BitVec 32 := 0#32
  let v45 : BitVec 1 := Scalar.cmpi .ne v44 c0_i32_38
  v45

def k0_off331 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c2_i32_32 : BitVec 32 := 2#32
  let v37 : BitVec 32 := Scalar.addi v18 c2_i32_32
  let c128_i32_45 : BitVec 32 := 128#32
  let v55 : BitVec 32 := Scalar.muli v37 c128_i32_45
  ![v55.toNat]
@[reducible] def k0_t4_loop : Scf.Loop 32 :=
  let c0_i32_52 : BitVec 32 := 0#32
  let c8_i32 : BitVec 32 := 8#32
  let v60 : BitVec 32 := Scalar.addi c0_i32_52 c8_i32
  let c1_i32_53 : BitVec 32 := 1#32
  ⟨c0_i32_52, v60, c1_i32_53⟩
def k0_off332 (k0_t1 : Fin k0_t1_loop.trips) (k0_t4 : Fin k0_t4_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c2_i32_32 : BitVec 32 := 2#32
  let v37 : BitVec 32 := Scalar.addi v18 c2_i32_32
  let c128_i32_45 : BitVec 32 := 128#32
  let v55 : BitVec 32 := Scalar.muli v37 c128_i32_45
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32 : BitVec 32 := 16#32
  let v64 : BitVec 32 := Scalar.muli v63 c16_i32
  let v65 : BitVec 32 := Scalar.addi v55 v64
  let v66 : Index := Scalar.indexCast v65
  ![v66.toNat]
def k0_off333 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v73 : Index := Scalar.indexCast v70
  let c0 : Index := 0#32
  ![v73.toNat, 0]
def k0_off334 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v76 : Index := Scalar.indexCast v70
  let c0_61 : Index := 0#32
  ![v76.toNat, 0]
def k0_off335 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v82 : Index := Scalar.indexCast v70
  let c16 : Index := 16#32
  ![v82.toNat, 16]
def k0_off336 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v85 : Index := Scalar.indexCast v70
  let c16_64 : Index := 16#32
  ![v85.toNat, 16]
def k0_off337 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v91 : Index := Scalar.indexCast v70
  let c32 : Index := 32#32
  ![v91.toNat, 32]
def k0_off338 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v94 : Index := Scalar.indexCast v70
  let c32_67 : Index := 32#32
  ![v94.toNat, 32]
def k0_off339 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v100 : Index := Scalar.indexCast v70
  let c48 : Index := 48#32
  ![v100.toNat, 48]
def k0_off340 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v103 : Index := Scalar.indexCast v70
  let c48_70 : Index := 48#32
  ![v103.toNat, 48]
def k0_off341 (v108 : BitVec 32) : Fin 2 → Nat :=
  let v109 : Index := Scalar.indexCast v108
  let c0_71 : Index := 0#32
  ![v109.toNat, 0]

def k0_chk33 (k0_t1 : Fin k0_t1_loop.trips) (v108 : BitVec 32) : Prop :=
  (∀ (k0_h6 : k0_cond6 k0_t1 = 1#1), ∀ a, (k0_off341 v108) a + S1x16.size a ≤ S64x16.size a)
theorem k0_off341_inb : ∀ (k0_t1 : Fin k0_t1_loop.trips) (v108 : BitVec 32) (k0_hw33 : k0_chk33 k0_t1 v108), ∀ (k0_h6 : k0_cond6 k0_t1 = 1#1), ∀ a, (k0_off341 v108) a + S1x16.size a ≤ S64x16.size a := fun k0_t1 v108 k0_hw33 k0_h6 => k0_hw33 k0_h6

def k0_off342 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v112 : Index := Scalar.indexCast v70
  let c64 : Index := 64#32
  ![v112.toNat, 64]
def k0_off343 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v120 : Index := Scalar.indexCast v117
  let c0_76 : Index := 0#32
  ![v120.toNat, 0]
def k0_off344 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v123 : Index := Scalar.indexCast v117
  let c0_77 : Index := 0#32
  ![v123.toNat, 0]
def k0_off345 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v129 : Index := Scalar.indexCast v117
  let c16_80 : Index := 16#32
  ![v129.toNat, 16]
def k0_off346 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v132 : Index := Scalar.indexCast v117
  let c16_81 : Index := 16#32
  ![v132.toNat, 16]
def k0_off347 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v138 : Index := Scalar.indexCast v117
  let c32_84 : Index := 32#32
  ![v138.toNat, 32]
def k0_off348 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v141 : Index := Scalar.indexCast v117
  let c32_85 : Index := 32#32
  ![v141.toNat, 32]
def k0_off349 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v147 : Index := Scalar.indexCast v117
  let c48_88 : Index := 48#32
  ![v147.toNat, 48]
def k0_off350 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v150 : Index := Scalar.indexCast v117
  let c48_89 : Index := 48#32
  ![v150.toNat, 48]
def k0_off351 (v155 : BitVec 32) : Fin 2 → Nat :=
  let v156 : Index := Scalar.indexCast v155
  let c0_90 : Index := 0#32
  ![v156.toNat, 0]

def k0_chk34 (k0_t1 : Fin k0_t1_loop.trips) (v155 : BitVec 32) : Prop :=
  (∀ (k0_h6 : k0_cond6 k0_t1 = 1#1), ∀ a, (k0_off351 v155) a + S1x16.size a ≤ S64x16.size a)
theorem k0_off351_inb : ∀ (k0_t1 : Fin k0_t1_loop.trips) (v155 : BitVec 32) (k0_hw34 : k0_chk34 k0_t1 v155), ∀ (k0_h6 : k0_cond6 k0_t1 = 1#1), ∀ a, (k0_off351 v155) a + S1x16.size a ≤ S64x16.size a := fun k0_t1 v155 k0_hw34 k0_h6 => k0_hw34 k0_h6

def k0_off352 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v159 : Index := Scalar.indexCast v117
  let c64_91 : Index := 64#32
  ![v159.toNat, 64]
def k0_off353 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v167 : Index := Scalar.indexCast v164
  let c0_96 : Index := 0#32
  ![v167.toNat, 0]
def k0_off354 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v170 : Index := Scalar.indexCast v164
  let c0_97 : Index := 0#32
  ![v170.toNat, 0]
def k0_off355 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v176 : Index := Scalar.indexCast v164
  let c16_100 : Index := 16#32
  ![v176.toNat, 16]
def k0_off356 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v179 : Index := Scalar.indexCast v164
  let c16_101 : Index := 16#32
  ![v179.toNat, 16]
def k0_off357 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v185 : Index := Scalar.indexCast v164
  let c32_104 : Index := 32#32
  ![v185.toNat, 32]
def k0_off358 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v188 : Index := Scalar.indexCast v164
  let c32_105 : Index := 32#32
  ![v188.toNat, 32]
def k0_off359 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v194 : Index := Scalar.indexCast v164
  let c48_108 : Index := 48#32
  ![v194.toNat, 48]
def k0_off360 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v197 : Index := Scalar.indexCast v164
  let c48_109 : Index := 48#32
  ![v197.toNat, 48]
def k0_off361 (v202 : BitVec 32) : Fin 2 → Nat :=
  let v203 : Index := Scalar.indexCast v202
  let c0_110 : Index := 0#32
  ![v203.toNat, 0]

def k0_chk35 (k0_t1 : Fin k0_t1_loop.trips) (v202 : BitVec 32) : Prop :=
  (∀ (k0_h6 : k0_cond6 k0_t1 = 1#1), ∀ a, (k0_off361 v202) a + S1x16.size a ≤ S64x16.size a)
theorem k0_off361_inb : ∀ (k0_t1 : Fin k0_t1_loop.trips) (v202 : BitVec 32) (k0_hw35 : k0_chk35 k0_t1 v202), ∀ (k0_h6 : k0_cond6 k0_t1 = 1#1), ∀ a, (k0_off361 v202) a + S1x16.size a ≤ S64x16.size a := fun k0_t1 v202 k0_hw35 k0_h6 => k0_hw35 k0_h6

def k0_off362 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v206 : Index := Scalar.indexCast v164
  let c64_111 : Index := 64#32
  ![v206.toNat, 64]
def k0_off363 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v214 : Index := Scalar.indexCast v211
  let c0_116 : Index := 0#32
  ![v214.toNat, 0]
def k0_off364 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v217 : Index := Scalar.indexCast v211
  let c0_117 : Index := 0#32
  ![v217.toNat, 0]
def k0_off365 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v223 : Index := Scalar.indexCast v211
  let c16_120 : Index := 16#32
  ![v223.toNat, 16]
def k0_off366 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v226 : Index := Scalar.indexCast v211
  let c16_121 : Index := 16#32
  ![v226.toNat, 16]
def k0_off367 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v232 : Index := Scalar.indexCast v211
  let c32_124 : Index := 32#32
  ![v232.toNat, 32]
def k0_off368 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v235 : Index := Scalar.indexCast v211
  let c32_125 : Index := 32#32
  ![v235.toNat, 32]
def k0_off369 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v241 : Index := Scalar.indexCast v211
  let c48_128 : Index := 48#32
  ![v241.toNat, 48]
def k0_off370 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v244 : Index := Scalar.indexCast v211
  let c48_129 : Index := 48#32
  ![v244.toNat, 48]
def k0_off371 (v249 : BitVec 32) : Fin 2 → Nat :=
  let v250 : Index := Scalar.indexCast v249
  let c0_130 : Index := 0#32
  ![v250.toNat, 0]

def k0_chk36 (k0_t1 : Fin k0_t1_loop.trips) (v249 : BitVec 32) : Prop :=
  (∀ (k0_h6 : k0_cond6 k0_t1 = 1#1), ∀ a, (k0_off371 v249) a + S1x16.size a ≤ S64x16.size a)
theorem k0_off371_inb : ∀ (k0_t1 : Fin k0_t1_loop.trips) (v249 : BitVec 32) (k0_hw36 : k0_chk36 k0_t1 v249), ∀ (k0_h6 : k0_cond6 k0_t1 = 1#1), ∀ a, (k0_off371 v249) a + S1x16.size a ≤ S64x16.size a := fun k0_t1 v249 k0_hw36 k0_h6 => k0_hw36 k0_h6

def k0_off372 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v253 : Index := Scalar.indexCast v211
  let c64_131 : Index := 64#32
  ![v253.toNat, 64]
def k0_off373 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v261 : Index := Scalar.indexCast v258
  let c0_136 : Index := 0#32
  ![v261.toNat, 0]
def k0_off374 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v264 : Index := Scalar.indexCast v258
  let c0_137 : Index := 0#32
  ![v264.toNat, 0]
def k0_off375 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v270 : Index := Scalar.indexCast v258
  let c16_140 : Index := 16#32
  ![v270.toNat, 16]
def k0_off376 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v273 : Index := Scalar.indexCast v258
  let c16_141 : Index := 16#32
  ![v273.toNat, 16]
def k0_off377 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v279 : Index := Scalar.indexCast v258
  let c32_144 : Index := 32#32
  ![v279.toNat, 32]
def k0_off378 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v282 : Index := Scalar.indexCast v258
  let c32_145 : Index := 32#32
  ![v282.toNat, 32]
def k0_off379 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v288 : Index := Scalar.indexCast v258
  let c48_148 : Index := 48#32
  ![v288.toNat, 48]
def k0_off380 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v291 : Index := Scalar.indexCast v258
  let c48_149 : Index := 48#32
  ![v291.toNat, 48]
def k0_off381 (v296 : BitVec 32) : Fin 2 → Nat :=
  let v297 : Index := Scalar.indexCast v296
  let c0_150 : Index := 0#32
  ![v297.toNat, 0]

def k0_chk37 (k0_t1 : Fin k0_t1_loop.trips) (v296 : BitVec 32) : Prop :=
  (∀ (k0_h6 : k0_cond6 k0_t1 = 1#1), ∀ a, (k0_off381 v296) a + S1x16.size a ≤ S64x16.size a)
theorem k0_off381_inb : ∀ (k0_t1 : Fin k0_t1_loop.trips) (v296 : BitVec 32) (k0_hw37 : k0_chk37 k0_t1 v296), ∀ (k0_h6 : k0_cond6 k0_t1 = 1#1), ∀ a, (k0_off381 v296) a + S1x16.size a ≤ S64x16.size a := fun k0_t1 v296 k0_hw37 k0_h6 => k0_hw37 k0_h6

def k0_off382 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v300 : Index := Scalar.indexCast v258
  let c64_151 : Index := 64#32
  ![v300.toNat, 64]
def k0_off383 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v308 : Index := Scalar.indexCast v305
  let c0_155 : Index := 0#32
  ![v308.toNat, 0]
def k0_off384 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v311 : Index := Scalar.indexCast v305
  let c0_156 : Index := 0#32
  ![v311.toNat, 0]
def k0_off385 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v317 : Index := Scalar.indexCast v305
  let c16_159 : Index := 16#32
  ![v317.toNat, 16]
def k0_off386 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v320 : Index := Scalar.indexCast v305
  let c16_160 : Index := 16#32
  ![v320.toNat, 16]
def k0_off387 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v326 : Index := Scalar.indexCast v305
  let c32_163 : Index := 32#32
  ![v326.toNat, 32]
def k0_off388 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v329 : Index := Scalar.indexCast v305
  let c32_164 : Index := 32#32
  ![v329.toNat, 32]
def k0_off389 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v335 : Index := Scalar.indexCast v305
  let c48_167 : Index := 48#32
  ![v335.toNat, 48]
def k0_off390 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v338 : Index := Scalar.indexCast v305
  let c48_168 : Index := 48#32
  ![v338.toNat, 48]
def k0_off391 (v343 : BitVec 32) : Fin 2 → Nat :=
  let v344 : Index := Scalar.indexCast v343
  let c0_169 : Index := 0#32
  ![v344.toNat, 0]

def k0_chk38 (k0_t1 : Fin k0_t1_loop.trips) (v343 : BitVec 32) : Prop :=
  (∀ (k0_h6 : k0_cond6 k0_t1 = 1#1), ∀ a, (k0_off391 v343) a + S1x16.size a ≤ S64x16.size a)
theorem k0_off391_inb : ∀ (k0_t1 : Fin k0_t1_loop.trips) (v343 : BitVec 32) (k0_hw38 : k0_chk38 k0_t1 v343), ∀ (k0_h6 : k0_cond6 k0_t1 = 1#1), ∀ a, (k0_off391 v343) a + S1x16.size a ≤ S64x16.size a := fun k0_t1 v343 k0_hw38 k0_h6 => k0_hw38 k0_h6

def k0_off392 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v347 : Index := Scalar.indexCast v305
  let c64_170 : Index := 64#32
  ![v347.toNat, 64]
def k0_off393 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v355 : Index := Scalar.indexCast v352
  let c0_174 : Index := 0#32
  ![v355.toNat, 0]
def k0_off394 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v358 : Index := Scalar.indexCast v352
  let c0_175 : Index := 0#32
  ![v358.toNat, 0]
def k0_off395 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v364 : Index := Scalar.indexCast v352
  let c16_178 : Index := 16#32
  ![v364.toNat, 16]
def k0_off396 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v367 : Index := Scalar.indexCast v352
  let c16_179 : Index := 16#32
  ![v367.toNat, 16]
def k0_off397 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v373 : Index := Scalar.indexCast v352
  let c32_182 : Index := 32#32
  ![v373.toNat, 32]
def k0_off398 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v376 : Index := Scalar.indexCast v352
  let c32_183 : Index := 32#32
  ![v376.toNat, 32]
def k0_off399 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v382 : Index := Scalar.indexCast v352
  let c48_186 : Index := 48#32
  ![v382.toNat, 48]
def k0_off400 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v385 : Index := Scalar.indexCast v352
  let c48_187 : Index := 48#32
  ![v385.toNat, 48]
def k0_off401 (v390 : BitVec 32) : Fin 2 → Nat :=
  let v391 : Index := Scalar.indexCast v390
  let c0_188 : Index := 0#32
  ![v391.toNat, 0]

def k0_chk39 (k0_t1 : Fin k0_t1_loop.trips) (v390 : BitVec 32) : Prop :=
  (∀ (k0_h6 : k0_cond6 k0_t1 = 1#1), ∀ a, (k0_off401 v390) a + S1x16.size a ≤ S64x16.size a)
theorem k0_off401_inb : ∀ (k0_t1 : Fin k0_t1_loop.trips) (v390 : BitVec 32) (k0_hw39 : k0_chk39 k0_t1 v390), ∀ (k0_h6 : k0_cond6 k0_t1 = 1#1), ∀ a, (k0_off401 v390) a + S1x16.size a ≤ S64x16.size a := fun k0_t1 v390 k0_hw39 k0_h6 => k0_hw39 k0_h6

def k0_off402 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v394 : Index := Scalar.indexCast v352
  let c64_189 : Index := 64#32
  ![v394.toNat, 64]
def k0_off403 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v402 : Index := Scalar.indexCast v399
  let c0_193 : Index := 0#32
  ![v402.toNat, 0]
def k0_off404 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v405 : Index := Scalar.indexCast v399
  let c0_194 : Index := 0#32
  ![v405.toNat, 0]
def k0_off405 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v411 : Index := Scalar.indexCast v399
  let c16_197 : Index := 16#32
  ![v411.toNat, 16]
def k0_off406 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v414 : Index := Scalar.indexCast v399
  let c16_198 : Index := 16#32
  ![v414.toNat, 16]
def k0_off407 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v420 : Index := Scalar.indexCast v399
  let c32_201 : Index := 32#32
  ![v420.toNat, 32]
def k0_off408 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v423 : Index := Scalar.indexCast v399
  let c32_202 : Index := 32#32
  ![v423.toNat, 32]
def k0_off409 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v429 : Index := Scalar.indexCast v399
  let c48_205 : Index := 48#32
  ![v429.toNat, 48]
def k0_off410 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v432 : Index := Scalar.indexCast v399
  let c48_206 : Index := 48#32
  ![v432.toNat, 48]
def k0_off411 (v437 : BitVec 32) : Fin 2 → Nat :=
  let v438 : Index := Scalar.indexCast v437
  let c0_207 : Index := 0#32
  ![v438.toNat, 0]

def k0_chk40 (k0_t1 : Fin k0_t1_loop.trips) (v437 : BitVec 32) : Prop :=
  (∀ (k0_h6 : k0_cond6 k0_t1 = 1#1), ∀ a, (k0_off411 v437) a + S1x16.size a ≤ S64x16.size a)
theorem k0_off411_inb : ∀ (k0_t1 : Fin k0_t1_loop.trips) (v437 : BitVec 32) (k0_hw40 : k0_chk40 k0_t1 v437), ∀ (k0_h6 : k0_cond6 k0_t1 = 1#1), ∀ a, (k0_off411 v437) a + S1x16.size a ≤ S64x16.size a := fun k0_t1 v437 k0_hw40 k0_h6 => k0_hw40 k0_h6

def k0_off412 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v441 : Index := Scalar.indexCast v399
  let c64_208 : Index := 64#32
  ![v441.toNat, 64]
def k0_off413 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v449 : Index := Scalar.indexCast v446
  let c0_213 : Index := 0#32
  ![v449.toNat, 0]
def k0_off414 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v452 : Index := Scalar.indexCast v446
  let c0_214 : Index := 0#32
  ![v452.toNat, 0]
def k0_off415 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v458 : Index := Scalar.indexCast v446
  let c16_217 : Index := 16#32
  ![v458.toNat, 16]
def k0_off416 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v461 : Index := Scalar.indexCast v446
  let c16_218 : Index := 16#32
  ![v461.toNat, 16]
def k0_off417 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v467 : Index := Scalar.indexCast v446
  let c32_221 : Index := 32#32
  ![v467.toNat, 32]
def k0_off418 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v470 : Index := Scalar.indexCast v446
  let c32_222 : Index := 32#32
  ![v470.toNat, 32]
def k0_off419 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v476 : Index := Scalar.indexCast v446
  let c48_225 : Index := 48#32
  ![v476.toNat, 48]
def k0_off420 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v479 : Index := Scalar.indexCast v446
  let c48_226 : Index := 48#32
  ![v479.toNat, 48]
def k0_off421 (v484 : BitVec 32) : Fin 2 → Nat :=
  let v485 : Index := Scalar.indexCast v484
  let c0_227 : Index := 0#32
  ![v485.toNat, 0]

def k0_chk41 (k0_t1 : Fin k0_t1_loop.trips) (v484 : BitVec 32) : Prop :=
  (∀ (k0_h6 : k0_cond6 k0_t1 = 1#1), ∀ a, (k0_off421 v484) a + S1x16.size a ≤ S64x16.size a)
theorem k0_off421_inb : ∀ (k0_t1 : Fin k0_t1_loop.trips) (v484 : BitVec 32) (k0_hw41 : k0_chk41 k0_t1 v484), ∀ (k0_h6 : k0_cond6 k0_t1 = 1#1), ∀ a, (k0_off421 v484) a + S1x16.size a ≤ S64x16.size a := fun k0_t1 v484 k0_hw41 k0_h6 => k0_hw41 k0_h6

def k0_off422 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v488 : Index := Scalar.indexCast v446
  let c64_228 : Index := 64#32
  ![v488.toNat, 64]
def k0_off423 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v496 : Index := Scalar.indexCast v493
  let c0_232 : Index := 0#32
  ![v496.toNat, 0]
def k0_off424 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v499 : Index := Scalar.indexCast v493
  let c0_233 : Index := 0#32
  ![v499.toNat, 0]
def k0_off425 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v505 : Index := Scalar.indexCast v493
  let c16_236 : Index := 16#32
  ![v505.toNat, 16]
def k0_off426 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v508 : Index := Scalar.indexCast v493
  let c16_237 : Index := 16#32
  ![v508.toNat, 16]
def k0_off427 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v514 : Index := Scalar.indexCast v493
  let c32_240 : Index := 32#32
  ![v514.toNat, 32]
def k0_off428 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v517 : Index := Scalar.indexCast v493
  let c32_241 : Index := 32#32
  ![v517.toNat, 32]
def k0_off429 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v523 : Index := Scalar.indexCast v493
  let c48_244 : Index := 48#32
  ![v523.toNat, 48]
def k0_off430 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v526 : Index := Scalar.indexCast v493
  let c48_245 : Index := 48#32
  ![v526.toNat, 48]
def k0_off431 (v531 : BitVec 32) : Fin 2 → Nat :=
  let v532 : Index := Scalar.indexCast v531
  let c0_246 : Index := 0#32
  ![v532.toNat, 0]

def k0_chk42 (k0_t1 : Fin k0_t1_loop.trips) (v531 : BitVec 32) : Prop :=
  (∀ (k0_h6 : k0_cond6 k0_t1 = 1#1), ∀ a, (k0_off431 v531) a + S1x16.size a ≤ S64x16.size a)
theorem k0_off431_inb : ∀ (k0_t1 : Fin k0_t1_loop.trips) (v531 : BitVec 32) (k0_hw42 : k0_chk42 k0_t1 v531), ∀ (k0_h6 : k0_cond6 k0_t1 = 1#1), ∀ a, (k0_off431 v531) a + S1x16.size a ≤ S64x16.size a := fun k0_t1 v531 k0_hw42 k0_h6 => k0_hw42 k0_h6

def k0_off432 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v535 : Index := Scalar.indexCast v493
  let c64_247 : Index := 64#32
  ![v535.toNat, 64]
def k0_off433 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v543 : Index := Scalar.indexCast v540
  let c0_251 : Index := 0#32
  ![v543.toNat, 0]
def k0_off434 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v546 : Index := Scalar.indexCast v540
  let c0_252 : Index := 0#32
  ![v546.toNat, 0]
def k0_off435 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v552 : Index := Scalar.indexCast v540
  let c16_255 : Index := 16#32
  ![v552.toNat, 16]
def k0_off436 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v555 : Index := Scalar.indexCast v540
  let c16_256 : Index := 16#32
  ![v555.toNat, 16]
def k0_off437 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v561 : Index := Scalar.indexCast v540
  let c32_259 : Index := 32#32
  ![v561.toNat, 32]
def k0_off438 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v564 : Index := Scalar.indexCast v540
  let c32_260 : Index := 32#32
  ![v564.toNat, 32]
def k0_off439 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v570 : Index := Scalar.indexCast v540
  let c48_263 : Index := 48#32
  ![v570.toNat, 48]
def k0_off440 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v573 : Index := Scalar.indexCast v540
  let c48_264 : Index := 48#32
  ![v573.toNat, 48]
def k0_off441 (v578 : BitVec 32) : Fin 2 → Nat :=
  let v579 : Index := Scalar.indexCast v578
  let c0_265 : Index := 0#32
  ![v579.toNat, 0]

def k0_chk43 (k0_t1 : Fin k0_t1_loop.trips) (v578 : BitVec 32) : Prop :=
  (∀ (k0_h6 : k0_cond6 k0_t1 = 1#1), ∀ a, (k0_off441 v578) a + S1x16.size a ≤ S64x16.size a)
theorem k0_off441_inb : ∀ (k0_t1 : Fin k0_t1_loop.trips) (v578 : BitVec 32) (k0_hw43 : k0_chk43 k0_t1 v578), ∀ (k0_h6 : k0_cond6 k0_t1 = 1#1), ∀ a, (k0_off441 v578) a + S1x16.size a ≤ S64x16.size a := fun k0_t1 v578 k0_hw43 k0_h6 => k0_hw43 k0_h6

def k0_off442 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v582 : Index := Scalar.indexCast v540
  let c64_266 : Index := 64#32
  ![v582.toNat, 64]
def k0_off443 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v590 : Index := Scalar.indexCast v587
  let c0_270 : Index := 0#32
  ![v590.toNat, 0]
def k0_off444 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v593 : Index := Scalar.indexCast v587
  let c0_271 : Index := 0#32
  ![v593.toNat, 0]
def k0_off445 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v599 : Index := Scalar.indexCast v587
  let c16_274 : Index := 16#32
  ![v599.toNat, 16]
def k0_off446 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v602 : Index := Scalar.indexCast v587
  let c16_275 : Index := 16#32
  ![v602.toNat, 16]
def k0_off447 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v608 : Index := Scalar.indexCast v587
  let c32_278 : Index := 32#32
  ![v608.toNat, 32]
def k0_off448 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v611 : Index := Scalar.indexCast v587
  let c32_279 : Index := 32#32
  ![v611.toNat, 32]
def k0_off449 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v617 : Index := Scalar.indexCast v587
  let c48_282 : Index := 48#32
  ![v617.toNat, 48]
def k0_off450 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v620 : Index := Scalar.indexCast v587
  let c48_283 : Index := 48#32
  ![v620.toNat, 48]
def k0_off451 (v625 : BitVec 32) : Fin 2 → Nat :=
  let v626 : Index := Scalar.indexCast v625
  let c0_284 : Index := 0#32
  ![v626.toNat, 0]

def k0_chk44 (k0_t1 : Fin k0_t1_loop.trips) (v625 : BitVec 32) : Prop :=
  (∀ (k0_h6 : k0_cond6 k0_t1 = 1#1), ∀ a, (k0_off451 v625) a + S1x16.size a ≤ S64x16.size a)
theorem k0_off451_inb : ∀ (k0_t1 : Fin k0_t1_loop.trips) (v625 : BitVec 32) (k0_hw44 : k0_chk44 k0_t1 v625), ∀ (k0_h6 : k0_cond6 k0_t1 = 1#1), ∀ a, (k0_off451 v625) a + S1x16.size a ≤ S64x16.size a := fun k0_t1 v625 k0_hw44 k0_h6 => k0_hw44 k0_h6

def k0_off452 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v629 : Index := Scalar.indexCast v587
  let c64_285 : Index := 64#32
  ![v629.toNat, 64]
def k0_off453 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v637 : Index := Scalar.indexCast v634
  let c0_289 : Index := 0#32
  ![v637.toNat, 0]
def k0_off454 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v640 : Index := Scalar.indexCast v634
  let c0_290 : Index := 0#32
  ![v640.toNat, 0]
def k0_off455 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v646 : Index := Scalar.indexCast v634
  let c16_293 : Index := 16#32
  ![v646.toNat, 16]
def k0_off456 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v649 : Index := Scalar.indexCast v634
  let c16_294 : Index := 16#32
  ![v649.toNat, 16]
def k0_off457 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v655 : Index := Scalar.indexCast v634
  let c32_297 : Index := 32#32
  ![v655.toNat, 32]
def k0_off458 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v658 : Index := Scalar.indexCast v634
  let c32_298 : Index := 32#32
  ![v658.toNat, 32]
def k0_off459 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v664 : Index := Scalar.indexCast v634
  let c48_301 : Index := 48#32
  ![v664.toNat, 48]
def k0_off460 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v667 : Index := Scalar.indexCast v634
  let c48_302 : Index := 48#32
  ![v667.toNat, 48]
def k0_off461 (v672 : BitVec 32) : Fin 2 → Nat :=
  let v673 : Index := Scalar.indexCast v672
  let c0_303 : Index := 0#32
  ![v673.toNat, 0]

def k0_chk45 (k0_t1 : Fin k0_t1_loop.trips) (v672 : BitVec 32) : Prop :=
  (∀ (k0_h6 : k0_cond6 k0_t1 = 1#1), ∀ a, (k0_off461 v672) a + S1x16.size a ≤ S64x16.size a)
theorem k0_off461_inb : ∀ (k0_t1 : Fin k0_t1_loop.trips) (v672 : BitVec 32) (k0_hw45 : k0_chk45 k0_t1 v672), ∀ (k0_h6 : k0_cond6 k0_t1 = 1#1), ∀ a, (k0_off461 v672) a + S1x16.size a ≤ S64x16.size a := fun k0_t1 v672 k0_hw45 k0_h6 => k0_hw45 k0_h6

def k0_off462 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v676 : Index := Scalar.indexCast v634
  let c64_304 : Index := 64#32
  ![v676.toNat, 64]
def k0_off463 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v684 : Index := Scalar.indexCast v681
  let c0_309 : Index := 0#32
  ![v684.toNat, 0]
def k0_off464 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v687 : Index := Scalar.indexCast v681
  let c0_310 : Index := 0#32
  ![v687.toNat, 0]
def k0_off465 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v693 : Index := Scalar.indexCast v681
  let c16_313 : Index := 16#32
  ![v693.toNat, 16]
def k0_off466 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v696 : Index := Scalar.indexCast v681
  let c16_314 : Index := 16#32
  ![v696.toNat, 16]
def k0_off467 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v702 : Index := Scalar.indexCast v681
  let c32_317 : Index := 32#32
  ![v702.toNat, 32]
def k0_off468 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v705 : Index := Scalar.indexCast v681
  let c32_318 : Index := 32#32
  ![v705.toNat, 32]
def k0_off469 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v711 : Index := Scalar.indexCast v681
  let c48_321 : Index := 48#32
  ![v711.toNat, 48]
def k0_off470 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v714 : Index := Scalar.indexCast v681
  let c48_322 : Index := 48#32
  ![v714.toNat, 48]
def k0_off471 (v719 : BitVec 32) : Fin 2 → Nat :=
  let v720 : Index := Scalar.indexCast v719
  let c0_323 : Index := 0#32
  ![v720.toNat, 0]

def k0_chk46 (k0_t1 : Fin k0_t1_loop.trips) (v719 : BitVec 32) : Prop :=
  (∀ (k0_h6 : k0_cond6 k0_t1 = 1#1), ∀ a, (k0_off471 v719) a + S1x16.size a ≤ S64x16.size a)
theorem k0_off471_inb : ∀ (k0_t1 : Fin k0_t1_loop.trips) (v719 : BitVec 32) (k0_hw46 : k0_chk46 k0_t1 v719), ∀ (k0_h6 : k0_cond6 k0_t1 = 1#1), ∀ a, (k0_off471 v719) a + S1x16.size a ≤ S64x16.size a := fun k0_t1 v719 k0_hw46 k0_h6 => k0_hw46 k0_h6

def k0_off472 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v723 : Index := Scalar.indexCast v681
  let c64_324 : Index := 64#32
  ![v723.toNat, 64]
def k0_off473 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v731 : Index := Scalar.indexCast v728
  let c0_328 : Index := 0#32
  ![v731.toNat, 0]
def k0_off474 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v734 : Index := Scalar.indexCast v728
  let c0_329 : Index := 0#32
  ![v734.toNat, 0]
def k0_off475 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v740 : Index := Scalar.indexCast v728
  let c16_332 : Index := 16#32
  ![v740.toNat, 16]
def k0_off476 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v743 : Index := Scalar.indexCast v728
  let c16_333 : Index := 16#32
  ![v743.toNat, 16]
def k0_off477 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v749 : Index := Scalar.indexCast v728
  let c32_336 : Index := 32#32
  ![v749.toNat, 32]
def k0_off478 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v752 : Index := Scalar.indexCast v728
  let c32_337 : Index := 32#32
  ![v752.toNat, 32]
def k0_off479 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v758 : Index := Scalar.indexCast v728
  let c48_340 : Index := 48#32
  ![v758.toNat, 48]
def k0_off480 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v761 : Index := Scalar.indexCast v728
  let c48_341 : Index := 48#32
  ![v761.toNat, 48]
def k0_off481 (v766 : BitVec 32) : Fin 2 → Nat :=
  let v767 : Index := Scalar.indexCast v766
  let c0_342 : Index := 0#32
  ![v767.toNat, 0]

def k0_chk47 (k0_t1 : Fin k0_t1_loop.trips) (v766 : BitVec 32) : Prop :=
  (∀ (k0_h6 : k0_cond6 k0_t1 = 1#1), ∀ a, (k0_off481 v766) a + S1x16.size a ≤ S64x16.size a)
theorem k0_off481_inb : ∀ (k0_t1 : Fin k0_t1_loop.trips) (v766 : BitVec 32) (k0_hw47 : k0_chk47 k0_t1 v766), ∀ (k0_h6 : k0_cond6 k0_t1 = 1#1), ∀ a, (k0_off481 v766) a + S1x16.size a ≤ S64x16.size a := fun k0_t1 v766 k0_hw47 k0_h6 => k0_hw47 k0_h6

def k0_off482 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v770 : Index := Scalar.indexCast v728
  let c64_343 : Index := 64#32
  ![v770.toNat, 64]
def k0_off483 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v778 : Index := Scalar.indexCast v775
  let c0_347 : Index := 0#32
  ![v778.toNat, 0]
def k0_off484 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v781 : Index := Scalar.indexCast v775
  let c0_348 : Index := 0#32
  ![v781.toNat, 0]
def k0_off485 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v787 : Index := Scalar.indexCast v775
  let c16_351 : Index := 16#32
  ![v787.toNat, 16]
def k0_off486 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v790 : Index := Scalar.indexCast v775
  let c16_352 : Index := 16#32
  ![v790.toNat, 16]
def k0_off487 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v796 : Index := Scalar.indexCast v775
  let c32_355 : Index := 32#32
  ![v796.toNat, 32]
def k0_off488 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v799 : Index := Scalar.indexCast v775
  let c32_356 : Index := 32#32
  ![v799.toNat, 32]
def k0_off489 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v805 : Index := Scalar.indexCast v775
  let c48_359 : Index := 48#32
  ![v805.toNat, 48]
def k0_off490 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v808 : Index := Scalar.indexCast v775
  let c48_360 : Index := 48#32
  ![v808.toNat, 48]
def k0_off491 (v813 : BitVec 32) : Fin 2 → Nat :=
  let v814 : Index := Scalar.indexCast v813
  let c0_361 : Index := 0#32
  ![v814.toNat, 0]

def k0_chk48 (k0_t1 : Fin k0_t1_loop.trips) (v813 : BitVec 32) : Prop :=
  (∀ (k0_h6 : k0_cond6 k0_t1 = 1#1), ∀ a, (k0_off491 v813) a + S1x16.size a ≤ S64x16.size a)
theorem k0_off491_inb : ∀ (k0_t1 : Fin k0_t1_loop.trips) (v813 : BitVec 32) (k0_hw48 : k0_chk48 k0_t1 v813), ∀ (k0_h6 : k0_cond6 k0_t1 = 1#1), ∀ a, (k0_off491 v813) a + S1x16.size a ≤ S64x16.size a := fun k0_t1 v813 k0_hw48 k0_h6 => k0_hw48 k0_h6

def k0_off492 (k0_t4 : Fin k0_t4_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t4
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v817 : Index := Scalar.indexCast v775
  let c64_362 : Index := 64#32
  ![v817.toNat, 64]
def k0_off493 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c2_i32_32 : BitVec 32 := 2#32
  let v37 : BitVec 32 := Scalar.addi v18 c2_i32_32
  let c128_i32_45 : BitVec 32 := 128#32
  let v55 : BitVec 32 := Scalar.muli v37 c128_i32_45
  let v61 : BitVec 32 := Scalar.addi v2 v55
  let c0_i32_55_r5 : BitVec 32 := 0#32
  ![v61.toNat, 0]
def k0_cond7 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c3_i32 : BitVec 32 := 3#32
  let v46 : BitVec 32 := Scalar.addi v18 c3_i32
  let c4_i32_39 : BitVec 32 := 4#32
  let v47 : BitVec 32 := Scalar.addi v46 c4_i32_39
  let c1_i32_40 : BitVec 32 := 1#32
  let v48 : BitVec 32 := Scalar.subi v47 c1_i32_40
  let c50_i32_41 : BitVec 32 := 50#32
  let v49 : BitVec 1 := Scalar.cmpi .slt v48 c50_i32_41
  let v50 : BitVec 32 := Scalar.extui v49
  let c0_i32_42 : BitVec 32 := 0#32
  let v51 : BitVec 1 := Scalar.cmpi .ne v50 c0_i32_42
  v51

def k0_off494 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c3_i32 : BitVec 32 := 3#32
  let v46 : BitVec 32 := Scalar.addi v18 c3_i32
  let c4_i32_45 : BitVec 32 := 4#32
  let v55 : BitVec 32 := Scalar.addi v46 c4_i32_45
  let c1_i32_46 : BitVec 32 := 1#32
  let v56 : BitVec 32 := Scalar.subi v55 c1_i32_46
  let c128_i32_47 : BitVec 32 := 128#32
  let v57 : BitVec 32 := Scalar.muli v56 c128_i32_47
  ![v57.toNat]
def k0_cond8 (k0_t1 : Fin k0_t1_loop.trips) : BitVec 1 :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c3_i32 : BitVec 32 := 3#32
  let v46 : BitVec 32 := Scalar.addi v18 c3_i32
  let c50_i32_43 : BitVec 32 := 50#32
  let v52 : BitVec 1 := Scalar.cmpi .slt v46 c50_i32_43
  let v53 : BitVec 32 := Scalar.extui v52
  let c0_i32_44 : BitVec 32 := 0#32
  let v54 : BitVec 1 := Scalar.cmpi .ne v53 c0_i32_44
  v54

def k0_off495 (k0_t1 : Fin k0_t1_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c3_i32 : BitVec 32 := 3#32
  let v46 : BitVec 32 := Scalar.addi v18 c3_i32
  let c128_i32_45 : BitVec 32 := 128#32
  let v55 : BitVec 32 := Scalar.muli v46 c128_i32_45
  ![v55.toNat]
@[reducible] def k0_t5_loop : Scf.Loop 32 :=
  let c0_i32_52 : BitVec 32 := 0#32
  let c8_i32 : BitVec 32 := 8#32
  let v60 : BitVec 32 := Scalar.addi c0_i32_52 c8_i32
  let c1_i32_53 : BitVec 32 := 1#32
  ⟨c0_i32_52, v60, c1_i32_53⟩
def k0_off496 (k0_t1 : Fin k0_t1_loop.trips) (k0_t5 : Fin k0_t5_loop.trips) : Fin 1 → Nat :=
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c3_i32 : BitVec 32 := 3#32
  let v46 : BitVec 32 := Scalar.addi v18 c3_i32
  let c128_i32_45 : BitVec 32 := 128#32
  let v55 : BitVec 32 := Scalar.muli v46 c128_i32_45
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32 : BitVec 32 := 16#32
  let v64 : BitVec 32 := Scalar.muli v63 c16_i32
  let v65 : BitVec 32 := Scalar.addi v55 v64
  let v66 : Index := Scalar.indexCast v65
  ![v66.toNat]
def k0_off497 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v73 : Index := Scalar.indexCast v70
  let c0 : Index := 0#32
  ![v73.toNat, 0]
def k0_off498 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v76 : Index := Scalar.indexCast v70
  let c0_61 : Index := 0#32
  ![v76.toNat, 0]
def k0_off499 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v82 : Index := Scalar.indexCast v70
  let c16 : Index := 16#32
  ![v82.toNat, 16]
def k0_off500 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v85 : Index := Scalar.indexCast v70
  let c16_64 : Index := 16#32
  ![v85.toNat, 16]
def k0_off501 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v91 : Index := Scalar.indexCast v70
  let c32 : Index := 32#32
  ![v91.toNat, 32]
def k0_off502 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v94 : Index := Scalar.indexCast v70
  let c32_67 : Index := 32#32
  ![v94.toNat, 32]
def k0_off503 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v100 : Index := Scalar.indexCast v70
  let c48 : Index := 48#32
  ![v100.toNat, 48]
def k0_off504 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v103 : Index := Scalar.indexCast v70
  let c48_70 : Index := 48#32
  ![v103.toNat, 48]
def k0_off505 (v108 : BitVec 32) : Fin 2 → Nat :=
  let v109 : Index := Scalar.indexCast v108
  let c0_71 : Index := 0#32
  ![v109.toNat, 0]

def k0_chk49 (k0_t1 : Fin k0_t1_loop.trips) (v108 : BitVec 32) : Prop :=
  (∀ (k0_h8 : k0_cond8 k0_t1 = 1#1), ∀ a, (k0_off505 v108) a + S1x16.size a ≤ S64x16.size a)
theorem k0_off505_inb : ∀ (k0_t1 : Fin k0_t1_loop.trips) (v108 : BitVec 32) (k0_hw49 : k0_chk49 k0_t1 v108), ∀ (k0_h8 : k0_cond8 k0_t1 = 1#1), ∀ a, (k0_off505 v108) a + S1x16.size a ≤ S64x16.size a := fun k0_t1 v108 k0_hw49 k0_h8 => k0_hw49 k0_h8

def k0_off506 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_57 : BitVec 32 := 16#32
  let v69 : BitVec 32 := Scalar.muli v63 c16_i32_57
  let c0_i32_58 : BitVec 32 := 0#32
  let v70 : BitVec 32 := Scalar.addi v69 c0_i32_58
  let v112 : Index := Scalar.indexCast v70
  let c64 : Index := 64#32
  ![v112.toNat, 64]
def k0_off507 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v120 : Index := Scalar.indexCast v117
  let c0_76 : Index := 0#32
  ![v120.toNat, 0]
def k0_off508 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v123 : Index := Scalar.indexCast v117
  let c0_77 : Index := 0#32
  ![v123.toNat, 0]
def k0_off509 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v129 : Index := Scalar.indexCast v117
  let c16_80 : Index := 16#32
  ![v129.toNat, 16]
def k0_off510 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v132 : Index := Scalar.indexCast v117
  let c16_81 : Index := 16#32
  ![v132.toNat, 16]
def k0_off511 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v138 : Index := Scalar.indexCast v117
  let c32_84 : Index := 32#32
  ![v138.toNat, 32]
def k0_off512 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v141 : Index := Scalar.indexCast v117
  let c32_85 : Index := 32#32
  ![v141.toNat, 32]
def k0_off513 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v147 : Index := Scalar.indexCast v117
  let c48_88 : Index := 48#32
  ![v147.toNat, 48]
def k0_off514 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v150 : Index := Scalar.indexCast v117
  let c48_89 : Index := 48#32
  ![v150.toNat, 48]
def k0_off515 (v155 : BitVec 32) : Fin 2 → Nat :=
  let v156 : Index := Scalar.indexCast v155
  let c0_90 : Index := 0#32
  ![v156.toNat, 0]

def k0_chk50 (k0_t1 : Fin k0_t1_loop.trips) (v155 : BitVec 32) : Prop :=
  (∀ (k0_h8 : k0_cond8 k0_t1 = 1#1), ∀ a, (k0_off515 v155) a + S1x16.size a ≤ S64x16.size a)
theorem k0_off515_inb : ∀ (k0_t1 : Fin k0_t1_loop.trips) (v155 : BitVec 32) (k0_hw50 : k0_chk50 k0_t1 v155), ∀ (k0_h8 : k0_cond8 k0_t1 = 1#1), ∀ a, (k0_off515 v155) a + S1x16.size a ≤ S64x16.size a := fun k0_t1 v155 k0_hw50 k0_h8 => k0_hw50 k0_h8

def k0_off516 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_72 : BitVec 32 := 16#32
  let v116 : BitVec 32 := Scalar.muli v63 c16_i32_72
  let c1_i32_73 : BitVec 32 := 1#32
  let v117 : BitVec 32 := Scalar.addi v116 c1_i32_73
  let v159 : Index := Scalar.indexCast v117
  let c64_91 : Index := 64#32
  ![v159.toNat, 64]
def k0_off517 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v167 : Index := Scalar.indexCast v164
  let c0_96 : Index := 0#32
  ![v167.toNat, 0]
def k0_off518 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v170 : Index := Scalar.indexCast v164
  let c0_97 : Index := 0#32
  ![v170.toNat, 0]
def k0_off519 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v176 : Index := Scalar.indexCast v164
  let c16_100 : Index := 16#32
  ![v176.toNat, 16]
def k0_off520 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v179 : Index := Scalar.indexCast v164
  let c16_101 : Index := 16#32
  ![v179.toNat, 16]
def k0_off521 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v185 : Index := Scalar.indexCast v164
  let c32_104 : Index := 32#32
  ![v185.toNat, 32]
def k0_off522 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v188 : Index := Scalar.indexCast v164
  let c32_105 : Index := 32#32
  ![v188.toNat, 32]
def k0_off523 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v194 : Index := Scalar.indexCast v164
  let c48_108 : Index := 48#32
  ![v194.toNat, 48]
def k0_off524 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v197 : Index := Scalar.indexCast v164
  let c48_109 : Index := 48#32
  ![v197.toNat, 48]
def k0_off525 (v202 : BitVec 32) : Fin 2 → Nat :=
  let v203 : Index := Scalar.indexCast v202
  let c0_110 : Index := 0#32
  ![v203.toNat, 0]

def k0_chk51 (k0_t1 : Fin k0_t1_loop.trips) (v202 : BitVec 32) : Prop :=
  (∀ (k0_h8 : k0_cond8 k0_t1 = 1#1), ∀ a, (k0_off525 v202) a + S1x16.size a ≤ S64x16.size a)
theorem k0_off525_inb : ∀ (k0_t1 : Fin k0_t1_loop.trips) (v202 : BitVec 32) (k0_hw51 : k0_chk51 k0_t1 v202), ∀ (k0_h8 : k0_cond8 k0_t1 = 1#1), ∀ a, (k0_off525 v202) a + S1x16.size a ≤ S64x16.size a := fun k0_t1 v202 k0_hw51 k0_h8 => k0_hw51 k0_h8

def k0_off526 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_92 : BitVec 32 := 16#32
  let v163 : BitVec 32 := Scalar.muli v63 c16_i32_92
  let c2_i32_93 : BitVec 32 := 2#32
  let v164 : BitVec 32 := Scalar.addi v163 c2_i32_93
  let v206 : Index := Scalar.indexCast v164
  let c64_111 : Index := 64#32
  ![v206.toNat, 64]
def k0_off527 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v214 : Index := Scalar.indexCast v211
  let c0_116 : Index := 0#32
  ![v214.toNat, 0]
def k0_off528 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v217 : Index := Scalar.indexCast v211
  let c0_117 : Index := 0#32
  ![v217.toNat, 0]
def k0_off529 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v223 : Index := Scalar.indexCast v211
  let c16_120 : Index := 16#32
  ![v223.toNat, 16]
def k0_off530 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v226 : Index := Scalar.indexCast v211
  let c16_121 : Index := 16#32
  ![v226.toNat, 16]
def k0_off531 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v232 : Index := Scalar.indexCast v211
  let c32_124 : Index := 32#32
  ![v232.toNat, 32]
def k0_off532 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v235 : Index := Scalar.indexCast v211
  let c32_125 : Index := 32#32
  ![v235.toNat, 32]
def k0_off533 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v241 : Index := Scalar.indexCast v211
  let c48_128 : Index := 48#32
  ![v241.toNat, 48]
def k0_off534 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v244 : Index := Scalar.indexCast v211
  let c48_129 : Index := 48#32
  ![v244.toNat, 48]
def k0_off535 (v249 : BitVec 32) : Fin 2 → Nat :=
  let v250 : Index := Scalar.indexCast v249
  let c0_130 : Index := 0#32
  ![v250.toNat, 0]

def k0_chk52 (k0_t1 : Fin k0_t1_loop.trips) (v249 : BitVec 32) : Prop :=
  (∀ (k0_h8 : k0_cond8 k0_t1 = 1#1), ∀ a, (k0_off535 v249) a + S1x16.size a ≤ S64x16.size a)
theorem k0_off535_inb : ∀ (k0_t1 : Fin k0_t1_loop.trips) (v249 : BitVec 32) (k0_hw52 : k0_chk52 k0_t1 v249), ∀ (k0_h8 : k0_cond8 k0_t1 = 1#1), ∀ a, (k0_off535 v249) a + S1x16.size a ≤ S64x16.size a := fun k0_t1 v249 k0_hw52 k0_h8 => k0_hw52 k0_h8

def k0_off536 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_112 : BitVec 32 := 16#32
  let v210 : BitVec 32 := Scalar.muli v63 c16_i32_112
  let c3_i32_113 : BitVec 32 := 3#32
  let v211 : BitVec 32 := Scalar.addi v210 c3_i32_113
  let v253 : Index := Scalar.indexCast v211
  let c64_131 : Index := 64#32
  ![v253.toNat, 64]
def k0_off537 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v261 : Index := Scalar.indexCast v258
  let c0_136 : Index := 0#32
  ![v261.toNat, 0]
def k0_off538 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v264 : Index := Scalar.indexCast v258
  let c0_137 : Index := 0#32
  ![v264.toNat, 0]
def k0_off539 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v270 : Index := Scalar.indexCast v258
  let c16_140 : Index := 16#32
  ![v270.toNat, 16]
def k0_off540 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v273 : Index := Scalar.indexCast v258
  let c16_141 : Index := 16#32
  ![v273.toNat, 16]
def k0_off541 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v279 : Index := Scalar.indexCast v258
  let c32_144 : Index := 32#32
  ![v279.toNat, 32]
def k0_off542 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v282 : Index := Scalar.indexCast v258
  let c32_145 : Index := 32#32
  ![v282.toNat, 32]
def k0_off543 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v288 : Index := Scalar.indexCast v258
  let c48_148 : Index := 48#32
  ![v288.toNat, 48]
def k0_off544 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v291 : Index := Scalar.indexCast v258
  let c48_149 : Index := 48#32
  ![v291.toNat, 48]
def k0_off545 (v296 : BitVec 32) : Fin 2 → Nat :=
  let v297 : Index := Scalar.indexCast v296
  let c0_150 : Index := 0#32
  ![v297.toNat, 0]

def k0_chk53 (k0_t1 : Fin k0_t1_loop.trips) (v296 : BitVec 32) : Prop :=
  (∀ (k0_h8 : k0_cond8 k0_t1 = 1#1), ∀ a, (k0_off545 v296) a + S1x16.size a ≤ S64x16.size a)
theorem k0_off545_inb : ∀ (k0_t1 : Fin k0_t1_loop.trips) (v296 : BitVec 32) (k0_hw53 : k0_chk53 k0_t1 v296), ∀ (k0_h8 : k0_cond8 k0_t1 = 1#1), ∀ a, (k0_off545 v296) a + S1x16.size a ≤ S64x16.size a := fun k0_t1 v296 k0_hw53 k0_h8 => k0_hw53 k0_h8

def k0_off546 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_132 : BitVec 32 := 16#32
  let v257 : BitVec 32 := Scalar.muli v63 c16_i32_132
  let c4_i32_133 : BitVec 32 := 4#32
  let v258 : BitVec 32 := Scalar.addi v257 c4_i32_133
  let v300 : Index := Scalar.indexCast v258
  let c64_151 : Index := 64#32
  ![v300.toNat, 64]
def k0_off547 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v308 : Index := Scalar.indexCast v305
  let c0_155 : Index := 0#32
  ![v308.toNat, 0]
def k0_off548 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v311 : Index := Scalar.indexCast v305
  let c0_156 : Index := 0#32
  ![v311.toNat, 0]
def k0_off549 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v317 : Index := Scalar.indexCast v305
  let c16_159 : Index := 16#32
  ![v317.toNat, 16]
def k0_off550 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v320 : Index := Scalar.indexCast v305
  let c16_160 : Index := 16#32
  ![v320.toNat, 16]
def k0_off551 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v326 : Index := Scalar.indexCast v305
  let c32_163 : Index := 32#32
  ![v326.toNat, 32]
def k0_off552 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v329 : Index := Scalar.indexCast v305
  let c32_164 : Index := 32#32
  ![v329.toNat, 32]
def k0_off553 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v335 : Index := Scalar.indexCast v305
  let c48_167 : Index := 48#32
  ![v335.toNat, 48]
def k0_off554 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v338 : Index := Scalar.indexCast v305
  let c48_168 : Index := 48#32
  ![v338.toNat, 48]
def k0_off555 (v343 : BitVec 32) : Fin 2 → Nat :=
  let v344 : Index := Scalar.indexCast v343
  let c0_169 : Index := 0#32
  ![v344.toNat, 0]

def k0_chk54 (k0_t1 : Fin k0_t1_loop.trips) (v343 : BitVec 32) : Prop :=
  (∀ (k0_h8 : k0_cond8 k0_t1 = 1#1), ∀ a, (k0_off555 v343) a + S1x16.size a ≤ S64x16.size a)
theorem k0_off555_inb : ∀ (k0_t1 : Fin k0_t1_loop.trips) (v343 : BitVec 32) (k0_hw54 : k0_chk54 k0_t1 v343), ∀ (k0_h8 : k0_cond8 k0_t1 = 1#1), ∀ a, (k0_off555 v343) a + S1x16.size a ≤ S64x16.size a := fun k0_t1 v343 k0_hw54 k0_h8 => k0_hw54 k0_h8

def k0_off556 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_152 : BitVec 32 := 16#32
  let v304 : BitVec 32 := Scalar.muli v63 c16_i32_152
  let c5_i32 : BitVec 32 := 5#32
  let v305 : BitVec 32 := Scalar.addi v304 c5_i32
  let v347 : Index := Scalar.indexCast v305
  let c64_170 : Index := 64#32
  ![v347.toNat, 64]
def k0_off557 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v355 : Index := Scalar.indexCast v352
  let c0_174 : Index := 0#32
  ![v355.toNat, 0]
def k0_off558 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v358 : Index := Scalar.indexCast v352
  let c0_175 : Index := 0#32
  ![v358.toNat, 0]
def k0_off559 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v364 : Index := Scalar.indexCast v352
  let c16_178 : Index := 16#32
  ![v364.toNat, 16]
def k0_off560 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v367 : Index := Scalar.indexCast v352
  let c16_179 : Index := 16#32
  ![v367.toNat, 16]
def k0_off561 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v373 : Index := Scalar.indexCast v352
  let c32_182 : Index := 32#32
  ![v373.toNat, 32]
def k0_off562 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v376 : Index := Scalar.indexCast v352
  let c32_183 : Index := 32#32
  ![v376.toNat, 32]
def k0_off563 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v382 : Index := Scalar.indexCast v352
  let c48_186 : Index := 48#32
  ![v382.toNat, 48]
def k0_off564 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v385 : Index := Scalar.indexCast v352
  let c48_187 : Index := 48#32
  ![v385.toNat, 48]
def k0_off565 (v390 : BitVec 32) : Fin 2 → Nat :=
  let v391 : Index := Scalar.indexCast v390
  let c0_188 : Index := 0#32
  ![v391.toNat, 0]

def k0_chk55 (k0_t1 : Fin k0_t1_loop.trips) (v390 : BitVec 32) : Prop :=
  (∀ (k0_h8 : k0_cond8 k0_t1 = 1#1), ∀ a, (k0_off565 v390) a + S1x16.size a ≤ S64x16.size a)
theorem k0_off565_inb : ∀ (k0_t1 : Fin k0_t1_loop.trips) (v390 : BitVec 32) (k0_hw55 : k0_chk55 k0_t1 v390), ∀ (k0_h8 : k0_cond8 k0_t1 = 1#1), ∀ a, (k0_off565 v390) a + S1x16.size a ≤ S64x16.size a := fun k0_t1 v390 k0_hw55 k0_h8 => k0_hw55 k0_h8

def k0_off566 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_171 : BitVec 32 := 16#32
  let v351 : BitVec 32 := Scalar.muli v63 c16_i32_171
  let c6_i32 : BitVec 32 := 6#32
  let v352 : BitVec 32 := Scalar.addi v351 c6_i32
  let v394 : Index := Scalar.indexCast v352
  let c64_189 : Index := 64#32
  ![v394.toNat, 64]
def k0_off567 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v402 : Index := Scalar.indexCast v399
  let c0_193 : Index := 0#32
  ![v402.toNat, 0]
def k0_off568 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v405 : Index := Scalar.indexCast v399
  let c0_194 : Index := 0#32
  ![v405.toNat, 0]
def k0_off569 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v411 : Index := Scalar.indexCast v399
  let c16_197 : Index := 16#32
  ![v411.toNat, 16]
def k0_off570 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v414 : Index := Scalar.indexCast v399
  let c16_198 : Index := 16#32
  ![v414.toNat, 16]
def k0_off571 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v420 : Index := Scalar.indexCast v399
  let c32_201 : Index := 32#32
  ![v420.toNat, 32]
def k0_off572 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v423 : Index := Scalar.indexCast v399
  let c32_202 : Index := 32#32
  ![v423.toNat, 32]
def k0_off573 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v429 : Index := Scalar.indexCast v399
  let c48_205 : Index := 48#32
  ![v429.toNat, 48]
def k0_off574 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v432 : Index := Scalar.indexCast v399
  let c48_206 : Index := 48#32
  ![v432.toNat, 48]
def k0_off575 (v437 : BitVec 32) : Fin 2 → Nat :=
  let v438 : Index := Scalar.indexCast v437
  let c0_207 : Index := 0#32
  ![v438.toNat, 0]

def k0_chk56 (k0_t1 : Fin k0_t1_loop.trips) (v437 : BitVec 32) : Prop :=
  (∀ (k0_h8 : k0_cond8 k0_t1 = 1#1), ∀ a, (k0_off575 v437) a + S1x16.size a ≤ S64x16.size a)
theorem k0_off575_inb : ∀ (k0_t1 : Fin k0_t1_loop.trips) (v437 : BitVec 32) (k0_hw56 : k0_chk56 k0_t1 v437), ∀ (k0_h8 : k0_cond8 k0_t1 = 1#1), ∀ a, (k0_off575 v437) a + S1x16.size a ≤ S64x16.size a := fun k0_t1 v437 k0_hw56 k0_h8 => k0_hw56 k0_h8

def k0_off576 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_190 : BitVec 32 := 16#32
  let v398 : BitVec 32 := Scalar.muli v63 c16_i32_190
  let c7_i32 : BitVec 32 := 7#32
  let v399 : BitVec 32 := Scalar.addi v398 c7_i32
  let v441 : Index := Scalar.indexCast v399
  let c64_208 : Index := 64#32
  ![v441.toNat, 64]
def k0_off577 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v449 : Index := Scalar.indexCast v446
  let c0_213 : Index := 0#32
  ![v449.toNat, 0]
def k0_off578 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v452 : Index := Scalar.indexCast v446
  let c0_214 : Index := 0#32
  ![v452.toNat, 0]
def k0_off579 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v458 : Index := Scalar.indexCast v446
  let c16_217 : Index := 16#32
  ![v458.toNat, 16]
def k0_off580 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v461 : Index := Scalar.indexCast v446
  let c16_218 : Index := 16#32
  ![v461.toNat, 16]
def k0_off581 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v467 : Index := Scalar.indexCast v446
  let c32_221 : Index := 32#32
  ![v467.toNat, 32]
def k0_off582 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v470 : Index := Scalar.indexCast v446
  let c32_222 : Index := 32#32
  ![v470.toNat, 32]
def k0_off583 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v476 : Index := Scalar.indexCast v446
  let c48_225 : Index := 48#32
  ![v476.toNat, 48]
def k0_off584 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v479 : Index := Scalar.indexCast v446
  let c48_226 : Index := 48#32
  ![v479.toNat, 48]
def k0_off585 (v484 : BitVec 32) : Fin 2 → Nat :=
  let v485 : Index := Scalar.indexCast v484
  let c0_227 : Index := 0#32
  ![v485.toNat, 0]

def k0_chk57 (k0_t1 : Fin k0_t1_loop.trips) (v484 : BitVec 32) : Prop :=
  (∀ (k0_h8 : k0_cond8 k0_t1 = 1#1), ∀ a, (k0_off585 v484) a + S1x16.size a ≤ S64x16.size a)
theorem k0_off585_inb : ∀ (k0_t1 : Fin k0_t1_loop.trips) (v484 : BitVec 32) (k0_hw57 : k0_chk57 k0_t1 v484), ∀ (k0_h8 : k0_cond8 k0_t1 = 1#1), ∀ a, (k0_off585 v484) a + S1x16.size a ≤ S64x16.size a := fun k0_t1 v484 k0_hw57 k0_h8 => k0_hw57 k0_h8

def k0_off586 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_209 : BitVec 32 := 16#32
  let v445 : BitVec 32 := Scalar.muli v63 c16_i32_209
  let c8_i32_210 : BitVec 32 := 8#32
  let v446 : BitVec 32 := Scalar.addi v445 c8_i32_210
  let v488 : Index := Scalar.indexCast v446
  let c64_228 : Index := 64#32
  ![v488.toNat, 64]
def k0_off587 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v496 : Index := Scalar.indexCast v493
  let c0_232 : Index := 0#32
  ![v496.toNat, 0]
def k0_off588 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v499 : Index := Scalar.indexCast v493
  let c0_233 : Index := 0#32
  ![v499.toNat, 0]
def k0_off589 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v505 : Index := Scalar.indexCast v493
  let c16_236 : Index := 16#32
  ![v505.toNat, 16]
def k0_off590 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v508 : Index := Scalar.indexCast v493
  let c16_237 : Index := 16#32
  ![v508.toNat, 16]
def k0_off591 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v514 : Index := Scalar.indexCast v493
  let c32_240 : Index := 32#32
  ![v514.toNat, 32]
def k0_off592 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v517 : Index := Scalar.indexCast v493
  let c32_241 : Index := 32#32
  ![v517.toNat, 32]
def k0_off593 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v523 : Index := Scalar.indexCast v493
  let c48_244 : Index := 48#32
  ![v523.toNat, 48]
def k0_off594 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v526 : Index := Scalar.indexCast v493
  let c48_245 : Index := 48#32
  ![v526.toNat, 48]
def k0_off595 (v531 : BitVec 32) : Fin 2 → Nat :=
  let v532 : Index := Scalar.indexCast v531
  let c0_246 : Index := 0#32
  ![v532.toNat, 0]

def k0_chk58 (k0_t1 : Fin k0_t1_loop.trips) (v531 : BitVec 32) : Prop :=
  (∀ (k0_h8 : k0_cond8 k0_t1 = 1#1), ∀ a, (k0_off595 v531) a + S1x16.size a ≤ S64x16.size a)
theorem k0_off595_inb : ∀ (k0_t1 : Fin k0_t1_loop.trips) (v531 : BitVec 32) (k0_hw58 : k0_chk58 k0_t1 v531), ∀ (k0_h8 : k0_cond8 k0_t1 = 1#1), ∀ a, (k0_off595 v531) a + S1x16.size a ≤ S64x16.size a := fun k0_t1 v531 k0_hw58 k0_h8 => k0_hw58 k0_h8

def k0_off596 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_229 : BitVec 32 := 16#32
  let v492 : BitVec 32 := Scalar.muli v63 c16_i32_229
  let c9_i32 : BitVec 32 := 9#32
  let v493 : BitVec 32 := Scalar.addi v492 c9_i32
  let v535 : Index := Scalar.indexCast v493
  let c64_247 : Index := 64#32
  ![v535.toNat, 64]
def k0_off597 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v543 : Index := Scalar.indexCast v540
  let c0_251 : Index := 0#32
  ![v543.toNat, 0]
def k0_off598 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v546 : Index := Scalar.indexCast v540
  let c0_252 : Index := 0#32
  ![v546.toNat, 0]
def k0_off599 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v552 : Index := Scalar.indexCast v540
  let c16_255 : Index := 16#32
  ![v552.toNat, 16]
def k0_off600 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v555 : Index := Scalar.indexCast v540
  let c16_256 : Index := 16#32
  ![v555.toNat, 16]
def k0_off601 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v561 : Index := Scalar.indexCast v540
  let c32_259 : Index := 32#32
  ![v561.toNat, 32]
def k0_off602 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v564 : Index := Scalar.indexCast v540
  let c32_260 : Index := 32#32
  ![v564.toNat, 32]
def k0_off603 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v570 : Index := Scalar.indexCast v540
  let c48_263 : Index := 48#32
  ![v570.toNat, 48]
def k0_off604 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v573 : Index := Scalar.indexCast v540
  let c48_264 : Index := 48#32
  ![v573.toNat, 48]
def k0_off605 (v578 : BitVec 32) : Fin 2 → Nat :=
  let v579 : Index := Scalar.indexCast v578
  let c0_265 : Index := 0#32
  ![v579.toNat, 0]

def k0_chk59 (k0_t1 : Fin k0_t1_loop.trips) (v578 : BitVec 32) : Prop :=
  (∀ (k0_h8 : k0_cond8 k0_t1 = 1#1), ∀ a, (k0_off605 v578) a + S1x16.size a ≤ S64x16.size a)
theorem k0_off605_inb : ∀ (k0_t1 : Fin k0_t1_loop.trips) (v578 : BitVec 32) (k0_hw59 : k0_chk59 k0_t1 v578), ∀ (k0_h8 : k0_cond8 k0_t1 = 1#1), ∀ a, (k0_off605 v578) a + S1x16.size a ≤ S64x16.size a := fun k0_t1 v578 k0_hw59 k0_h8 => k0_hw59 k0_h8

def k0_off606 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_248 : BitVec 32 := 16#32
  let v539 : BitVec 32 := Scalar.muli v63 c16_i32_248
  let c10_i32 : BitVec 32 := 10#32
  let v540 : BitVec 32 := Scalar.addi v539 c10_i32
  let v582 : Index := Scalar.indexCast v540
  let c64_266 : Index := 64#32
  ![v582.toNat, 64]
def k0_off607 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v590 : Index := Scalar.indexCast v587
  let c0_270 : Index := 0#32
  ![v590.toNat, 0]
def k0_off608 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v593 : Index := Scalar.indexCast v587
  let c0_271 : Index := 0#32
  ![v593.toNat, 0]
def k0_off609 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v599 : Index := Scalar.indexCast v587
  let c16_274 : Index := 16#32
  ![v599.toNat, 16]
def k0_off610 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v602 : Index := Scalar.indexCast v587
  let c16_275 : Index := 16#32
  ![v602.toNat, 16]
def k0_off611 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v608 : Index := Scalar.indexCast v587
  let c32_278 : Index := 32#32
  ![v608.toNat, 32]
def k0_off612 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v611 : Index := Scalar.indexCast v587
  let c32_279 : Index := 32#32
  ![v611.toNat, 32]
def k0_off613 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v617 : Index := Scalar.indexCast v587
  let c48_282 : Index := 48#32
  ![v617.toNat, 48]
def k0_off614 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v620 : Index := Scalar.indexCast v587
  let c48_283 : Index := 48#32
  ![v620.toNat, 48]
def k0_off615 (v625 : BitVec 32) : Fin 2 → Nat :=
  let v626 : Index := Scalar.indexCast v625
  let c0_284 : Index := 0#32
  ![v626.toNat, 0]

def k0_chk60 (k0_t1 : Fin k0_t1_loop.trips) (v625 : BitVec 32) : Prop :=
  (∀ (k0_h8 : k0_cond8 k0_t1 = 1#1), ∀ a, (k0_off615 v625) a + S1x16.size a ≤ S64x16.size a)
theorem k0_off615_inb : ∀ (k0_t1 : Fin k0_t1_loop.trips) (v625 : BitVec 32) (k0_hw60 : k0_chk60 k0_t1 v625), ∀ (k0_h8 : k0_cond8 k0_t1 = 1#1), ∀ a, (k0_off615 v625) a + S1x16.size a ≤ S64x16.size a := fun k0_t1 v625 k0_hw60 k0_h8 => k0_hw60 k0_h8

def k0_off616 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_267 : BitVec 32 := 16#32
  let v586 : BitVec 32 := Scalar.muli v63 c16_i32_267
  let c11_i32 : BitVec 32 := 11#32
  let v587 : BitVec 32 := Scalar.addi v586 c11_i32
  let v629 : Index := Scalar.indexCast v587
  let c64_285 : Index := 64#32
  ![v629.toNat, 64]
def k0_off617 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v637 : Index := Scalar.indexCast v634
  let c0_289 : Index := 0#32
  ![v637.toNat, 0]
def k0_off618 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v640 : Index := Scalar.indexCast v634
  let c0_290 : Index := 0#32
  ![v640.toNat, 0]
def k0_off619 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v646 : Index := Scalar.indexCast v634
  let c16_293 : Index := 16#32
  ![v646.toNat, 16]
def k0_off620 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v649 : Index := Scalar.indexCast v634
  let c16_294 : Index := 16#32
  ![v649.toNat, 16]
def k0_off621 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v655 : Index := Scalar.indexCast v634
  let c32_297 : Index := 32#32
  ![v655.toNat, 32]
def k0_off622 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v658 : Index := Scalar.indexCast v634
  let c32_298 : Index := 32#32
  ![v658.toNat, 32]
def k0_off623 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v664 : Index := Scalar.indexCast v634
  let c48_301 : Index := 48#32
  ![v664.toNat, 48]
def k0_off624 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v667 : Index := Scalar.indexCast v634
  let c48_302 : Index := 48#32
  ![v667.toNat, 48]
def k0_off625 (v672 : BitVec 32) : Fin 2 → Nat :=
  let v673 : Index := Scalar.indexCast v672
  let c0_303 : Index := 0#32
  ![v673.toNat, 0]

def k0_chk61 (k0_t1 : Fin k0_t1_loop.trips) (v672 : BitVec 32) : Prop :=
  (∀ (k0_h8 : k0_cond8 k0_t1 = 1#1), ∀ a, (k0_off625 v672) a + S1x16.size a ≤ S64x16.size a)
theorem k0_off625_inb : ∀ (k0_t1 : Fin k0_t1_loop.trips) (v672 : BitVec 32) (k0_hw61 : k0_chk61 k0_t1 v672), ∀ (k0_h8 : k0_cond8 k0_t1 = 1#1), ∀ a, (k0_off625 v672) a + S1x16.size a ≤ S64x16.size a := fun k0_t1 v672 k0_hw61 k0_h8 => k0_hw61 k0_h8

def k0_off626 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_286 : BitVec 32 := 16#32
  let v633 : BitVec 32 := Scalar.muli v63 c16_i32_286
  let c12_i32 : BitVec 32 := 12#32
  let v634 : BitVec 32 := Scalar.addi v633 c12_i32
  let v676 : Index := Scalar.indexCast v634
  let c64_304 : Index := 64#32
  ![v676.toNat, 64]
def k0_off627 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v684 : Index := Scalar.indexCast v681
  let c0_309 : Index := 0#32
  ![v684.toNat, 0]
def k0_off628 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v687 : Index := Scalar.indexCast v681
  let c0_310 : Index := 0#32
  ![v687.toNat, 0]
def k0_off629 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v693 : Index := Scalar.indexCast v681
  let c16_313 : Index := 16#32
  ![v693.toNat, 16]
def k0_off630 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v696 : Index := Scalar.indexCast v681
  let c16_314 : Index := 16#32
  ![v696.toNat, 16]
def k0_off631 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v702 : Index := Scalar.indexCast v681
  let c32_317 : Index := 32#32
  ![v702.toNat, 32]
def k0_off632 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v705 : Index := Scalar.indexCast v681
  let c32_318 : Index := 32#32
  ![v705.toNat, 32]
def k0_off633 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v711 : Index := Scalar.indexCast v681
  let c48_321 : Index := 48#32
  ![v711.toNat, 48]
def k0_off634 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v714 : Index := Scalar.indexCast v681
  let c48_322 : Index := 48#32
  ![v714.toNat, 48]
def k0_off635 (v719 : BitVec 32) : Fin 2 → Nat :=
  let v720 : Index := Scalar.indexCast v719
  let c0_323 : Index := 0#32
  ![v720.toNat, 0]

def k0_chk62 (k0_t1 : Fin k0_t1_loop.trips) (v719 : BitVec 32) : Prop :=
  (∀ (k0_h8 : k0_cond8 k0_t1 = 1#1), ∀ a, (k0_off635 v719) a + S1x16.size a ≤ S64x16.size a)
theorem k0_off635_inb : ∀ (k0_t1 : Fin k0_t1_loop.trips) (v719 : BitVec 32) (k0_hw62 : k0_chk62 k0_t1 v719), ∀ (k0_h8 : k0_cond8 k0_t1 = 1#1), ∀ a, (k0_off635 v719) a + S1x16.size a ≤ S64x16.size a := fun k0_t1 v719 k0_hw62 k0_h8 => k0_hw62 k0_h8

def k0_off636 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_305 : BitVec 32 := 16#32
  let v680 : BitVec 32 := Scalar.muli v63 c16_i32_305
  let c13_i32_306 : BitVec 32 := 13#32
  let v681 : BitVec 32 := Scalar.addi v680 c13_i32_306
  let v723 : Index := Scalar.indexCast v681
  let c64_324 : Index := 64#32
  ![v723.toNat, 64]
def k0_off637 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v731 : Index := Scalar.indexCast v728
  let c0_328 : Index := 0#32
  ![v731.toNat, 0]
def k0_off638 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v734 : Index := Scalar.indexCast v728
  let c0_329 : Index := 0#32
  ![v734.toNat, 0]
def k0_off639 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v740 : Index := Scalar.indexCast v728
  let c16_332 : Index := 16#32
  ![v740.toNat, 16]
def k0_off640 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v743 : Index := Scalar.indexCast v728
  let c16_333 : Index := 16#32
  ![v743.toNat, 16]
def k0_off641 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v749 : Index := Scalar.indexCast v728
  let c32_336 : Index := 32#32
  ![v749.toNat, 32]
def k0_off642 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v752 : Index := Scalar.indexCast v728
  let c32_337 : Index := 32#32
  ![v752.toNat, 32]
def k0_off643 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v758 : Index := Scalar.indexCast v728
  let c48_340 : Index := 48#32
  ![v758.toNat, 48]
def k0_off644 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v761 : Index := Scalar.indexCast v728
  let c48_341 : Index := 48#32
  ![v761.toNat, 48]
def k0_off645 (v766 : BitVec 32) : Fin 2 → Nat :=
  let v767 : Index := Scalar.indexCast v766
  let c0_342 : Index := 0#32
  ![v767.toNat, 0]

def k0_chk63 (k0_t1 : Fin k0_t1_loop.trips) (v766 : BitVec 32) : Prop :=
  (∀ (k0_h8 : k0_cond8 k0_t1 = 1#1), ∀ a, (k0_off645 v766) a + S1x16.size a ≤ S64x16.size a)
theorem k0_off645_inb : ∀ (k0_t1 : Fin k0_t1_loop.trips) (v766 : BitVec 32) (k0_hw63 : k0_chk63 k0_t1 v766), ∀ (k0_h8 : k0_cond8 k0_t1 = 1#1), ∀ a, (k0_off645 v766) a + S1x16.size a ≤ S64x16.size a := fun k0_t1 v766 k0_hw63 k0_h8 => k0_hw63 k0_h8

def k0_off646 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_325 : BitVec 32 := 16#32
  let v727 : BitVec 32 := Scalar.muli v63 c16_i32_325
  let c14_i32 : BitVec 32 := 14#32
  let v728 : BitVec 32 := Scalar.addi v727 c14_i32
  let v770 : Index := Scalar.indexCast v728
  let c64_343 : Index := 64#32
  ![v770.toNat, 64]
def k0_off647 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v778 : Index := Scalar.indexCast v775
  let c0_347 : Index := 0#32
  ![v778.toNat, 0]
def k0_off648 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v781 : Index := Scalar.indexCast v775
  let c0_348 : Index := 0#32
  ![v781.toNat, 0]
def k0_off649 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v787 : Index := Scalar.indexCast v775
  let c16_351 : Index := 16#32
  ![v787.toNat, 16]
def k0_off650 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v790 : Index := Scalar.indexCast v775
  let c16_352 : Index := 16#32
  ![v790.toNat, 16]
def k0_off651 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v796 : Index := Scalar.indexCast v775
  let c32_355 : Index := 32#32
  ![v796.toNat, 32]
def k0_off652 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v799 : Index := Scalar.indexCast v775
  let c32_356 : Index := 32#32
  ![v799.toNat, 32]
def k0_off653 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v805 : Index := Scalar.indexCast v775
  let c48_359 : Index := 48#32
  ![v805.toNat, 48]
def k0_off654 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v808 : Index := Scalar.indexCast v775
  let c48_360 : Index := 48#32
  ![v808.toNat, 48]
def k0_off655 (v813 : BitVec 32) : Fin 2 → Nat :=
  let v814 : Index := Scalar.indexCast v813
  let c0_361 : Index := 0#32
  ![v814.toNat, 0]

def k0_chk64 (k0_t1 : Fin k0_t1_loop.trips) (v813 : BitVec 32) : Prop :=
  (∀ (k0_h8 : k0_cond8 k0_t1 = 1#1), ∀ a, (k0_off655 v813) a + S1x16.size a ≤ S64x16.size a)
theorem k0_off655_inb : ∀ (k0_t1 : Fin k0_t1_loop.trips) (v813 : BitVec 32) (k0_hw64 : k0_chk64 k0_t1 v813), ∀ (k0_h8 : k0_cond8 k0_t1 = 1#1), ∀ a, (k0_off655 v813) a + S1x16.size a ≤ S64x16.size a := fun k0_t1 v813 k0_hw64 k0_h8 => k0_hw64 k0_h8

def k0_off656 (k0_t5 : Fin k0_t5_loop.trips) : Fin 2 → Nat :=
  let c0_i32_56 : BitVec 32 := 0#32
  let c0_i32_52 : BitVec 32 := 0#32
  let c1_i32_53 : BitVec 32 := 1#32
  let arg17 : BitVec 32 := Scf.iv c0_i32_52 c1_i32_53 k0_t5
  let c1_i32_55 : BitVec 32 := 1#32
  let v62 : BitVec 32 := Scalar.muli arg17 c1_i32_55
  let v63 : BitVec 32 := Scalar.addi c0_i32_56 v62
  let c16_i32_344 : BitVec 32 := 16#32
  let v774 : BitVec 32 := Scalar.muli v63 c16_i32_344
  let c15_i32 : BitVec 32 := 15#32
  let v775 : BitVec 32 := Scalar.addi v774 c15_i32
  let v817 : Index := Scalar.indexCast v775
  let c64_362 : Index := 64#32
  ![v817.toNat, 64]
def k0_off657 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_14 : BitVec 32 := 0#32
  let c1_i32_15 : BitVec 32 := 1#32
  let arg16 : BitVec 32 := Scf.iv c0_i32_14 c1_i32_15 k0_t1
  let c1_i32_17 : BitVec 32 := 1#32
  let v16 : BitVec 32 := Scalar.muli arg16 c1_i32_17
  let v17 : BitVec 32 := Scalar.addi c0_i32_18 v16
  let c4_i32 : BitVec 32 := 4#32
  let v18 : BitVec 32 := Scalar.muli v17 c4_i32
  let c3_i32 : BitVec 32 := 3#32
  let v46 : BitVec 32 := Scalar.addi v18 c3_i32
  let c128_i32_45 : BitVec 32 := 128#32
  let v55 : BitVec 32 := Scalar.muli v46 c128_i32_45
  let v61 : BitVec 32 := Scalar.addi v2 v55
  let c0_i32_55_r6 : BitVec 32 := 0#32
  ![v61.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S1000002x64 : Shape := ⟨2, ![1000002, 64]⟩
abbrev S64x16 : Shape := ⟨2, ![64, 16]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩
abbrev S1024x200x16 : Shape := ⟨3, ![1024, 200, 16]⟩
abbrev S1024x200x80 : Shape := ⟨3, ![1024, 200, 80]⟩

abbrev nBuf : Space → Nat
  | .hbm => 51
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S1000002x64, .f32⟩
  | .hbm, ⟨3, _⟩ => ⟨S64x16, .f32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .i32⟩
  | .hbm, ⟨8, _⟩ => ⟨S1024x200, .i32⟩
  | .hbm, ⟨9, _⟩ => ⟨S1024x200, .i32⟩
  | .hbm, ⟨10, _⟩ => ⟨S1024x200, .i32⟩
  | .hbm, ⟨11, _⟩ => ⟨S1024x200x1, .i32⟩
  | .hbm, ⟨12, _⟩ => ⟨S1, .i32⟩
  | .hbm, ⟨13, _⟩ => ⟨S_, .i32⟩
  | .hbm, ⟨14, _⟩ => ⟨S1024x200x1, .i32⟩
  | .hbm, ⟨15, _⟩ => ⟨S1024x200x1, .i1⟩
  | .hbm, ⟨16, _⟩ => ⟨S1x1x1, .i32⟩
  | .hbm, ⟨17, _⟩ => ⟨S1024x200x1, .i32⟩
  | .hbm, ⟨18, _⟩ => ⟨S1024x200x1, .i1⟩
  | .hbm, ⟨19, _⟩ => ⟨S1024x200x1, .i1⟩
  | .hbm, ⟨20, _⟩ => ⟨S_, .i1⟩
  | .hbm, ⟨21, _⟩ => ⟨S1024x200, .i1⟩
  | .hbm, ⟨22, _⟩ => ⟨S1024x200x64, .f32⟩
  | .hbm, ⟨23, _⟩ => ⟨S1024x200x64, .i1⟩
  | .hbm, ⟨24, _⟩ => ⟨S_, .f32⟩
  | .hbm, ⟨25, _⟩ => ⟨S1024x200x64, .f32⟩
  | .hbm, ⟨26, _⟩ => ⟨S1024x200x64, .f32⟩
  | .hbm, ⟨27, _⟩ => ⟨S_, .i32⟩
  | .hbm, ⟨28, _⟩ => ⟨S1024x200, .i32⟩
  | .hbm, ⟨29, _⟩ => ⟨S1024x200, .i1⟩
  | .hbm, ⟨30, _⟩ => ⟨S_, .i32⟩
  | .hbm, ⟨31, _⟩ => ⟨S1024x200, .i32⟩
  | .hbm, ⟨32, _⟩ => ⟨S1024x200, .i32⟩
  | .hbm, ⟨33, _⟩ => ⟨S1024x200, .i32⟩
  | .hbm, ⟨34, _⟩ => ⟨S1024x200x1, .i32⟩
  | .hbm, ⟨35, _⟩ => ⟨S1, .i32⟩
  | .hbm, ⟨36, _⟩ => ⟨S_, .i32⟩
  | .hbm, ⟨37, _⟩ => ⟨S1024x200x1, .i32⟩
  | .hbm, ⟨38, _⟩ => ⟨S1024x200x1, .i1⟩
  | .hbm, ⟨39, _⟩ => ⟨S1x1x1, .i32⟩
  | .hbm, ⟨40, _⟩ => ⟨S1024x200x1, .i32⟩
  | .hbm, ⟨41, _⟩ => ⟨S1024x200x1, .i1⟩
  | .hbm, ⟨42, _⟩ => ⟨S1024x200x1, .i1⟩
  | .hbm, ⟨43, _⟩ => ⟨S_, .i1⟩
  | .hbm, ⟨44, _⟩ => ⟨S1024x200, .i1⟩
  | .hbm, ⟨45, _⟩ => ⟨S1024x200x16, .f32⟩
  | .hbm, ⟨46, _⟩ => ⟨S1024x200x16, .i1⟩
  | .hbm, ⟨47, _⟩ => ⟨S_, .f32⟩
  | .hbm, ⟨48, _⟩ => ⟨S1024x200x16, .f32⟩
  | .hbm, ⟨49, _⟩ => ⟨S1024x200x16, .f32⟩
  | .hbm, ⟨50, _⟩ => ⟨S1024x200x80, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩

abbrev nD : Nat := 1
abbrev τ : Topo := Topo.v7x

variable {F : FTy → Type} [FloatOps F]
-- ==== Proof.Body.lean ====
/-
  The kernel's task, folded: the printed body unrolls sixteen rows of a copy loop four times over (one copy for each
  slot of the ring of gathers). Here it is written once — a row, a group of sixteen rows, a step of the ring — over the slot
  number, with the words the kernel computes its offsets from kept as it computes them, and the printed body is that
  program (`lookup_eq`).
-/
module

public import proofs.«01_k».proof.Defs
public import proofs.«01_k».proof.Proof.Gen.KernelIdeal

@[expose] public section

noncomputable section

namespace Cert.Proof.Lookup

open Cert.KernelIdeal Cert.KernelIdeal.Gen
open Idealize.ShloMosaic
open Idealize.SL.Sem

variable {F : FTy → Type}

/-! ## The arrays a task names -/

abbrev xsM : Memref sig .scVector .hbm S204800 .i32 := Memref.whole main_v3_scv
abbrev psM : Memref sig .scVector .hbm S204800 .i32 := Memref.whole main_v4_scv
abbrev wtM : Memref sig .scVector .hbm S1000002x128 .f32 := Memref.whole main_v2_scv
abbrev pwM : Memref sig .scVector .hbm S64x16 .f32 := Memref.whole main_arg3_scv
abbrev outM : Memref sig .scVector .hbm S204800x80 .f32 := Memref.whole main_v5_scv
abbrev xiM : Memref sig .scVector .vmem S6400 .i32 := Memref.whole cc0_scratch0
abbrev piM : Memref sig .scVector .vmem S6400 .i32 := Memref.whole cc0_scratch1
abbrev ptM : Memref sig .scVector .vmem S64x16 .f32 := Memref.whole cc0_scratch2
abbrev wbM : Memref sig .scVector .vmem S4x128x128 .f32 := Memref.whole cc0_scratch3
abbrev obM : Memref sig .scVector .vmem S128x80 .f32 := Memref.whole cc0_scratch4

/-- The gather semaphore of a slot, -/
abbrev slotSem : Fin 4 → DmaSem sig
  | 0 => cc0_scratch5.sem
  | 1 => cc0_scratch6.sem
  | 2 => cc0_scratch7.sem
  | 3 => cc0_scratch8.sem

/-- and the semaphore its chunk goes out on. -/
abbrev outSem : Fin 4 → DmaSem sig
  | 0 => cc0_scoped3.sem
  | 1 => cc0_scoped4.sem
  | 2 => cc0_scoped5.sem
  | 3 => cc0_scoped6.sem

theorem slot_inb (p : Fin 4) : ∀ a, (![p.val, 0, 0] : Fin 3 → Nat) a + S1x128x128.size a ≤ S4x128x128.size a := by
  revert p; decide

/-- Slot `p` of the ring, as the program slices it. -/
abbrev slotM (p : Fin 4) : Memref sig .scVector .vmem S128x128 .f32 :=
  (wbM.slice (Rect.unit (s := S4x128x128) ![p.val, 0, 0] S1x128x128.size (slot_inb p)) (fun _ => rfl)).squeeze S128x128 squeezes_S1x128x128_S128x128

/-- The table, as the program slices it (all of it). -/
abbrev wtS : Memref sig .scVector .hbm S1000002x128 .f32 :=
  wtM.slice (Rect.unit (s := S1000002x128) ![0, 0] S1000002x128.size inb_S1000002x128_S1000002x128_0_0) (fun _ => rfl)

/-! ## The words the offsets are computed from -/

/-- The chunk a step of slot `p` works on, -/
def chunkW (t : Fin k0_t1_loop.trips) (p : Nat) : BitVec 32 :=
  Scalar.addi (Scalar.muli (Scalar.addi 0#32 (Scalar.muli (Scf.iv 0#32 1#32 t) 1#32)) 4#32) (BitVec.ofNat 32 p)

/-- the chunk it starts fetching, -/
def aheadW (t : Fin k0_t1_loop.trips) (p : Nat) : BitVec 32 := Scalar.subi (Scalar.addi (chunkW t p) 4#32) 1#32

/-- the group of sixteen rows, -/
def groupW (u : Fin k0_t2_loop.trips) : BitVec 32 := Scalar.addi 0#32 (Scalar.muli (Scf.iv 0#32 1#32 u) 1#32)

/-- a row of the chunk, -/
def rowW (u : Fin k0_t2_loop.trips) (j : Nat) : BitVec 32 := Scalar.addi (Scalar.muli (groupW u) 16#32) (BitVec.ofNat 32 j)

/-- and the task's first row of the call. -/
def baseW (c s : Nat) : BitVec 32 := Scalar.muli (Scalar.addi (Scalar.muli (BitVec.ofNat 32 s) 2#32) (BitVec.ofNat 32 c)) 6400#32

/-- Whether a chunk is one of the fifty. -/
def below (w : BitVec 32) : BitVec 1 := Scalar.cmpi .ne (Scalar.extui (Scalar.cmpi .slt w 50#32) : BitVec 32) 0#32

def fireC (t : Fin k0_t1_loop.trips) (p : Nat) : BitVec 1 := below (aheadW t p)
def drainC (t : Fin k0_t1_loop.trips) (p : Nat) : BitVec 1 := below (chunkW t p)

def fireOff (t : Fin k0_t1_loop.trips) (p : Nat) : Fin 1 → Nat := ![(Scalar.muli (aheadW t p) 128#32).toNat]
def posOff (t : Fin k0_t1_loop.trips) (u : Fin k0_t2_loop.trips) (p : Nat) : Fin 1 → Nat :=
  ![(Scalar.indexCast (Scalar.addi (Scalar.muli (chunkW t p) 128#32) (Scalar.muli (groupW u) 16#32))).toNat]
def cellOff (u : Fin k0_t2_loop.trips) (j c : Nat) : Fin 2 → Nat := ![(Scalar.indexCast (rowW u j)).toNat, c]
def pickOff (v : BitVec 32) : Fin 2 → Nat := ![(Scalar.indexCast v).toNat, 0]
def outOff (i : grid0.Coords) (t : Fin k0_t1_loop.trips) (p : Nat) : Fin 2 → Nat :=
  ![(Scalar.addi (baseW (i 0).val (i 1).val) (Scalar.muli (chunkW t p) 128#32)).toNat, 0]

/-! ### What they come to -/

theorem chunkW_toNat (t : Fin k0_t1_loop.trips) (p : Fin 4) : (chunkW t p).toNat = 4 * t.val + p.val := by
  revert t p; decide

theorem aheadW_toNat (t : Fin k0_t1_loop.trips) (p : Fin 4) : (aheadW t p).toNat = 4 * t.val + p.val + 3 := by
  revert t p; decide

theorem fireC_iff (t : Fin k0_t1_loop.trips) (p : Fin 4) : fireC t p = 1#1 ↔ 4 * t.val + p.val + 3 < 50 := by
  revert t p; decide

theorem drainC_iff (t : Fin k0_t1_loop.trips) (p : Fin 4) : drainC t p = 1#1 ↔ 4 * t.val + p.val < 50 := by
  revert t p; decide

theorem fireOff_eq (t : Fin k0_t1_loop.trips) (p : Fin 4) : fireOff t p = ![128 * (4 * t.val + p.val + 3)] := by
  revert t p; decide

theorem posOff_eq (t : Fin k0_t1_loop.trips) (u : Fin k0_t2_loop.trips) (p : Fin 4) :
    posOff t u p = ![128 * (4 * t.val + p.val) + 16 * u.val] := by
  revert t u p; decide

theorem rowW_toNat (u : Fin k0_t2_loop.trips) (j : Fin 16) : (Scalar.indexCast (rowW u j)).toNat = 16 * u.val + j.val := by
  revert u j; decide

theorem cellOff_eq (u : Fin k0_t2_loop.trips) (j : Fin 16) (c : Nat) : cellOff u j c = ![16 * u.val + j.val, c] := by
  unfold cellOff; rw [rowW_toNat]

theorem outRow_eq : ∀ (c : Fin 2) (s : Fin 16) (t : Fin k0_t1_loop.trips) (p : Fin 4),
    (Scalar.addi (baseW c.val s.val) (Scalar.muli (chunkW t p) 128#32)).toNat = 12800 * s.val + 6400 * c.val + 128 * (4 * t.val + p.val) := by
  decide +kernel

theorem outOff_eq (i : grid0.Coords) (t : Fin k0_t1_loop.trips) (p : Fin 4) :
    outOff i t p = ![12800 * (i 1).val + 6400 * (i 0).val + 128 * (4 * t.val + p.val), 0] := by
  unfold outOff; rw [outRow_eq (i 0) (i 1) t p]

theorem fireOff_inb (t : Fin k0_t1_loop.trips) (p : Fin 4) (h : fireC t p = 1#1) : ∀ a, fireOff t p a + S128.size a ≤ S6400.size a := by
  have := (fireC_iff t p).mp h
  rw [fireOff_eq]; intro a; fin_cases a; show 128 * _ + 128 ≤ 6400; omega

theorem posOff_inb (t : Fin k0_t1_loop.trips) (u : Fin k0_t2_loop.trips) (p : Fin 4) (h : drainC t p = 1#1) :
    ∀ a, posOff t u p a + S16.size a ≤ S6400.size a := by
  have := (drainC_iff t p).mp h
  have hu : u.val < 8 := u.isLt
  rw [posOff_eq]; intro a; fin_cases a; show 128 * (4 * t.val + p.val) + 16 * u.val + 16 ≤ 6400; omega

theorem cellOff_inb (u : Fin k0_t2_loop.trips) (j : Fin 16) (c : Nat) {n : Nat} (hc : c + 16 ≤ n) :
    ∀ a : Fin 2, cellOff u j c a + S1x16.size a ≤ (![128, n] : Fin 2 → Nat) a := by
  have hu : u.val < 8 := u.isLt
  rw [cellOff_eq]; intro a; fin_cases a
  · show 16 * u.val + j.val + 1 ≤ 128; omega
  · show c + 16 ≤ n; exact hc

theorem outOff_inb (i : grid0.Coords) (t : Fin k0_t1_loop.trips) (p : Fin 4) (h : drainC t p = 1#1) :
    ∀ a, outOff i t p a + S128x80.size a ≤ S204800x80.size a := by
  have := (drainC_iff t p).mp h
  have h0 : (i 0).val < 2 := (i 0).isLt
  have h1 : (i 1).val < 16 := (i 1).isLt
  rw [outOff_eq]; intro a; fin_cases a
  · show 12800 * (i 1).val + 6400 * (i 0).val + 128 * (4 * t.val + p.val) + 128 ≤ 204800; omega
  · show 0 + 80 ≤ 80; omega

/-! ## The programs -/

section Programs
variable [FloatOps F] (i : grid0.Coords)

/-- Sixteen lanes of a row copied from a slot to the block. -/
def cellProg (p : Fin 4) (u : Fin k0_t2_loop.trips) (j : Fin 16) (c : Nat) (hl : c + 16 ≤ 128) (hs : c + 16 ≤ 80) : Prog (TpuEff nD τ sig (Elt F) Λ₀ (.scVector ((i 0).castLE hcore0) ((i 1).castLE hsub0))) PUnit := do
  let v : Vec F S1x16 .f32 ← Prog.lift (.load (slotM p) (Rect.unit (s := S128x128) (cellOff u j c) S1x16.size (cellOff_inb u j c hl)).toLoadRect (View.loadsAt_vmem h_S1x16))
  let _ : Vec F S1x16 .f32 ← Prog.lift (.load obM (Rect.unit (s := S128x80) (cellOff u j c) S1x16.size (cellOff_inb u j c hs)).toLoadRect (View.loadsAt_vmem h_S1x16))
  Prog.lift (.store obM (Rect.unit (s := S128x80) (cellOff u j c) S1x16.size (cellOff_inb u j c hs))
    (shapeCast S1x16 (shapeCast S16 v shapeCasts_S1x16_S16 : FVec F S16 .f32) shapeCasts_S16_S1x16 : FVec F S1x16 .f32) Finset.univ (View.stores_vmem_bits_univ h_S1x16 rfl) (.inl rfl))

/-- What the task checks of a position before it reads its row. -/
def Chk (t : Fin k0_t1_loop.trips) (p : Nat) (v : BitVec 32) : Prop :=
  ∀ (_ : drainC t p = 1#1), ∀ a, (pickOff v) a + S1x16.size a ≤ S64x16.size a

instance Chk.dec (t : Fin k0_t1_loop.trips) (p : Nat) (v : BitVec 32) : Decidable (Chk t p v) := decidable_of_iff' _ (Iff.of_eq (Chk.eq_1 t p v))

theorem lane_slices (j : Fin 16) : S16.Slices ![j.val] S1 := by revert j; decide

/-- A row of the group: its four pieces from the slot, and its position's row from the second table. -/
def rowProg (t : Fin k0_t1_loop.trips) (p : Fin 4) (h : drainC t p = 1#1) (u : Fin k0_t2_loop.trips) (w : IVec S16 32) (j : Fin 16) : Prog (TpuEff nD τ sig (Elt F) Λ₀ (.scVector ((i 0).castLE hcore0) ((i 1).castLE hsub0))) PUnit := do
  cellProg i p u j 0 (by decide) (by decide)
  cellProg i p u j 16 (by decide) (by decide)
  cellProg i p u j 32 (by decide) (by decide)
  cellProg i p u j 48 (by decide) (by decide)
  let v : BitVec 32 := extractAt ![0] (extractStridedSlice S1 ![j.val] w (lane_slices j) : IVec S1 32) inpos_S1_p0
  let hv ← Prog.lift (TpuEff.assume (Chk t p v) (Chk.dec t p v))
  let z : Vec F S1x16 .f32 ← Prog.lift (.load ptM (Rect.unit (s := S64x16) (pickOff v) S1x16.size (hv.down h)).toLoadRect (View.loadsAt_vmem h_S1x16))
  let _ : Vec F S1x16 .f32 ← Prog.lift (.load obM (Rect.unit (s := S128x80) (cellOff u j 64) S1x16.size (cellOff_inb u j 64 (by decide))).toLoadRect (View.loadsAt_vmem h_S1x16))
  Prog.lift (.store obM (Rect.unit (s := S128x80) (cellOff u j 64) S1x16.size (cellOff_inb u j 64 (by decide)))
    (shapeCast S1x16 (shapeCast S16 z shapeCasts_S1x16_S16 : FVec F S16 .f32) shapeCasts_S16_S1x16 : FVec F S1x16 .f32) Finset.univ (View.stores_vmem_bits_univ h_S1x16 rfl) (.inl rfl))

/-- The rows of the group from row `j` on. -/
def rowsProg (t : Fin k0_t1_loop.trips) (p : Fin 4) (h : drainC t p = 1#1) (u : Fin k0_t2_loop.trips) (w : IVec S16 32) :
    (n j : Nat) → j + n = 16 → Prog (TpuEff nD τ sig (Elt F) Λ₀ (.scVector ((i 0).castLE hcore0) ((i 1).castLE hsub0))) PUnit
  | 0, _, _ => pure ⟨⟩
  | n + 1, j, hj => do
    rowProg i t p h u w ⟨j, by omega⟩
    rowsProg t p h u w n (j + 1) (by omega)

/-- A group: its sixteen positions, then its rows. -/
def groupProg (t : Fin k0_t1_loop.trips) (p : Fin 4) (h : drainC t p = 1#1) (u : Fin k0_t2_loop.trips) : Prog (TpuEff nD τ sig (Elt F) Λ₀ (.scVector ((i 0).castLE hcore0) ((i 1).castLE hsub0))) PUnit := do
  let w : Vec F S16 .i32 ← Prog.lift (.load piM (Rect.unit (s := S6400) (posOff t u p) S16.size (posOff_inb t u p h)).toLoadRect (View.loadsAt_vmem h_S16))
  rowsProg i t p h u (shapeCast S16 w shapeCasts_S16_S16) 16 0 rfl

/-- Start the gather of a chunk's rows into slot `p`. -/
def fetchProg (p : Fin 4) (o : Fin 1 → Nat) (ho : ∀ a, o a + S128.size a ≤ S6400.size a) : Prog (TpuEff nD τ sig (Elt F) Λ₀ (.scVector ((i 0).castLE hcore0) ((i 1).castLE hsub0))) PUnit :=
  SparseCore.enqueueIndirectGather rfl wtS (slotM p) gathers_S1000002x128_S128x128
    (xiM.slice (Rect.unit (s := S6400) o S128.size ho) (fun _ => rfl)) rfl (slotSem p) (View.wordExact_bits rfl) rfl (Or.inl rfl)

/-- Where a chunk goes in the call's result. -/
abbrev outS (t : Fin k0_t1_loop.trips) (p : Fin 4) (h : drainC t p = 1#1) : Memref sig .scVector .hbm S128x80 .f32 :=
  outM.slice (Rect.unit (s := S204800x80) (outOff i t p) S128x80.size (outOff_inb i t p h)) (fun _ => rfl)

theorem groups_ok : k0_t2_loop.OK := by decide

/-- Fetch three chunks ahead of a step, into the slot before the step's own, if there is such a chunk; go on with `k`. -/
def fireThen {α : Type} (t : Fin k0_t1_loop.trips) (p : Fin 4) (k : Prog (TpuEff nD τ sig (Elt F) Λ₀ (.scVector ((i 0).castLE hcore0) ((i 1).castLE hsub0))) α) :
    Prog (TpuEff nD τ sig (Elt F) Λ₀ (.scVector ((i 0).castLE hcore0) ((i 1).castLE hsub0))) α := do
  if h : fireC t p = 1#1 then
    fetchProg i (p + 3) (fireOff t p) (fireOff_inb t p h)
    k
  else
    k

/-- If the step has a chunk: wait for its slot, build the chunk's block of rows, send it out; go on with `k`. -/
def drainThen {α : Type} (t : Fin k0_t1_loop.trips) (p : Fin 4) (k : Prog (TpuEff nD τ sig (Elt F) Λ₀ (.scVector ((i 0).castLE hcore0) ((i 1).castLE hsub0))) α) :
    Prog (TpuEff nD τ sig (Elt F) Λ₀ (.scVector ((i 0).castLE hcore0) ((i 1).castLE hsub0))) α := do
  if h : drainC t p = 1#1 then
    SparseCore.waitIndirectGather (slotSem p) wtS (slotM p) (View.wordExact_bits rfl) ((View.wordExact_bits rfl).reshape _ _)
    Scf.Loop.for k0_t2_loop groups_ok ⟨⟩ fun u _ => groupProg i t p h u
    Prog.lift (.enqueueDma obM (.here (outS i t p h)) (.dma (outSem p)) (Memref.isWhole_whole _).wordExact (View.wordExact_bits rfl) ⟨Or.inl rfl, trivial⟩)
    Prog.lift (.waitDma2 (outSem p) obM (outS i t p h) (Memref.isWhole_whole _).wordExact (View.wordExact_bits rfl))
    k
  else
    k

/-- The steps of a trip before its third drain, yielding the words that drain was printed with, -/
def earlyProg (t : Fin k0_t1_loop.trips) :
    Prog (TpuEff nD τ sig (Elt F) Λ₀ (.scVector ((i 0).castLE hcore0) ((i 1).castLE hsub0))) (Σ' (_ : BitVec 32), BitVec 32) :=
  fireThen i t 0 <| drainThen i t 0 <| fireThen i t 1 <| drainThen i t 1 <| fireThen i t 2 <|
    pure ⟨Scalar.muli (Scalar.addi 0#32 (Scalar.muli (Scf.iv 0#32 1#32 t) 1#32)) 4#32, chunkW t 2⟩

/-- and the rest of it. -/
def lateProg (t : Fin k0_t1_loop.trips) :
    Prog (TpuEff nD τ sig (Elt F) Λ₀ (.scVector ((i 0).castLE hcore0) ((i 1).castLE hsub0))) PUnit :=
  drainThen i t 2 <| fireThen i t 3 <| drainThen i t 3 <| pure ⟨⟩

theorem head_inb (p : Fin 3) : ∀ a, (![128 * p.val] : Fin 1 → Nat) a + S128.size a ≤ S6400.size a := by
  revert p; decide

/-- A block of a flat array of row numbers: the task's own. -/
abbrev blockS (m : Memref sig .scVector .hbm S204800 .i32) : Memref sig .scVector .hbm S6400 .i32 :=
  m.slice (Rect.unit (s := S204800) (k0_off1 i) S6400.size (k0_off1_inb i)) (fun _ => rfl)

theorem steps_ok : k0_t1_loop.OK := by decide

/-- The task. -/
def lookupProg : Prog (TpuEff nD τ sig (Elt F) Λ₀ (.scVector ((i 0).castLE hcore0) ((i 1).castLE hsub0))) PUnit := do
  Prog.lift (.enqueueDma (blockS i xsM) (.here xiM) (.dma cc0_scoped0.sem) (View.wordExact_bits rfl) (Memref.isWhole_whole _).wordExact ⟨Or.inl rfl, trivial⟩)
  Prog.lift (.waitDma2 cc0_scoped0.sem (blockS i xsM) xiM (View.wordExact_bits rfl) (Memref.isWhole_whole _).wordExact)
  Prog.lift (.enqueueDma (blockS i psM) (.here piM) (.dma cc0_scoped1.sem) (View.wordExact_bits rfl) (Memref.isWhole_whole _).wordExact ⟨Or.inl rfl, trivial⟩)
  Prog.lift (.waitDma2 cc0_scoped1.sem (blockS i psM) piM (View.wordExact_bits rfl) (Memref.isWhole_whole _).wordExact)
  Prog.lift (.enqueueDma pwM (.here ptM) (.dma cc0_scoped2.sem) (Memref.isWhole_whole _).wordExact (Memref.isWhole_whole _).wordExact ⟨Or.inl rfl, trivial⟩)
  Prog.lift (.waitDma2 cc0_scoped2.sem pwM ptM (Memref.isWhole_whole _).wordExact (Memref.isWhole_whole _).wordExact)
  fetchProg i 0 ![0] (head_inb 0)
  fetchProg i 1 ![128] (head_inb 1)
  fetchProg i 2 ![256] (head_inb 2)
  Scf.Loop.for k0_t1_loop steps_ok ⟨⟩ fun t _ => do
    let _ ← earlyProg i t
    lateProg i t
  pure ⟨⟩

set_option maxRecDepth 100000 in
set_option maxHeartbeats 4000000 in
theorem part_eq : k0_part78 (F := F) i xsM (Memref.isWhole_whole _) psM (Memref.isWhole_whole _) wtM (Memref.isWhole_whole _) pwM (Memref.isWhole_whole _)
      outM (Memref.isWhole_whole _) xiM (Memref.isWhole_whole _) piM (Memref.isWhole_whole _) ptM (Memref.isWhole_whole _) wbM (Memref.isWhole_whole _)
      obM (Memref.isWhole_whole _) cc0_scratch5 cc0_scratch6 cc0_scratch7 cc0_scratch8 cc0_scoped0 cc0_scoped1 cc0_scoped2 cc0_scoped3 cc0_scoped4 cc0_scoped5 cc0_scoped6
    = lookupProg i := by
  delta lookupProg k0_part78
  dsimp only
  iterate 9
    refine congrArg (Bind.bind _) (funext fun _ => ?_)
  refine congrFun (congrArg Bind.bind ?_) _
  refine congrArg (Scf.Loop.for k0_t1_loop steps_ok PUnit.unit) (funext fun t => funext fun _ => ?_)
  refine congrArg (Bind.bind _) (funext fun _ => ?_)
  delta lateProg
  delta drainThen
  dsimp only
  rfl

/-- The printed body is this program. -/
theorem lookup_eq : cc0_lookup (F := F) i xsM (Memref.isWhole_whole _) psM (Memref.isWhole_whole _) wtM (Memref.isWhole_whole _) pwM (Memref.isWhole_whole _)
      outM (Memref.isWhole_whole _) xiM (Memref.isWhole_whole _) piM (Memref.isWhole_whole _) ptM (Memref.isWhole_whole _) wbM (Memref.isWhole_whole _)
      obM (Memref.isWhole_whole _) cc0_scratch5 cc0_scratch6 cc0_scratch7 cc0_scratch8 cc0_scoped0 cc0_scoped1 cc0_scoped2 cc0_scoped3 cc0_scoped4 cc0_scoped5 cc0_scoped6
    = lookupProg i := by
  unfold cc0_lookup
  rw [part_eq]
  exact bind_pure _

end Programs

end Cert.Proof.Lookup
-- ==== Proof.Setup.lean ====
/-
  What the proof of the call is stated over: the launch configuration, the ghost state, and the value of the call's result.
-/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The processor of a grid point, and the arrays where it sees them -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev xsLoc (d : Dev nD) : Loc nD τ sig := (SparseCore.T d).loc main_v3
abbrev psLoc (d : Dev nD) : Loc nD τ sig := (SparseCore.T d).loc main_v4
abbrev wtLoc (d : Dev nD) : Loc nD τ sig := (SparseCore.T d).loc main_v2
abbrev pwLoc (d : Dev nD) : Loc nD τ sig := (SparseCore.T d).loc main_arg3
abbrev outLoc (d : Dev nD) : Loc nD τ sig := (SparseCore.T d).loc main_v5

/-! ## The value of the call's result -/

/-- Index of a flat array, -/
def ix1 {n : Nat} (a : Nat) (h : a < n) : (⟨1, ![n]⟩ : Shape).Idx := fun | 0 => ⟨a, h⟩
/-- and of a table. -/
def ix2 {n m : Nat} (a : Nat) (ha : a < n) (b : Nat) (hb : b < m) : (⟨2, ![n, m]⟩ : Shape).Idx := fun | 0 => ⟨a, ha⟩ | 1 => ⟨b, hb⟩

/-- The row a word names in a table of `n + 1` rows (the word itself when it is in range). -/
def pick (n : Nat) (w : BitVec 32) : Nat := w.toNat % (n + 1)
theorem pick_lt (n : Nat) (w : BitVec 32) : pick n w < n + 1 := Nat.mod_lt _ (Nat.succ_pos n)
theorem pick_of_lt {n : Nat} {w : BitVec 32} (h : w.toNat < n + 1) : pick n w = w.toNat := Nat.mod_eq_of_lt h

/-- What the call leaves: at a row, the first table's row its first number names, cut to 64 columns, and then the second
    table's row its second number names. -/
def OUT (X P : S204800.Idx → BitVec 32) (Tb : S1000002x128.Idx → F .f32) (Wb : S64x16.Idx → F .f32) : S204800x80.Idx → F .f32 := fun y =>
  if h : (y 1).val < 64 then Tb (ix2 (pick 1000001 (X (ix1 (y 0).val (y 0).isLt))) (pick_lt _ _) (y 1).val (by omega))
  else Wb (ix2 (pick 63 (P (ix1 (y 0).val (y 0).isLt))) (pick_lt _ _) ((y 1).val - 64) (by have : (y 1).val < 80 := (y 1).isLt; omega))

end Cert.Proof.Lookup
-- ==== Proof.Rows.lean ====
/-
  One row of the block, then a group of sixteen: what the task's copies leave in the block it builds.
-/
module

public import proofs.«01_k».proof.Proof.Setup
public import Idealize.ShloMosaic.Lib.WritesUnit
public import Idealize.ShloMosaic.Lib.Pipeline.Value

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section
variable [FloatOps F] (d : Dev nD) (L : grid0.Coords)

/-- The block built so far: `f` holds `G` on the rows before `r`, and on row `r` before column `c`. -/
def Done (G : S128x80.Idx → F .f32) (r c : Nat) (f : S128x80.Idx → F .f32) : Prop :=
  ∀ y : S128x80.Idx, (y 0).val < r ∨ ((y 0).val = r ∧ (y 1).val < c) → f y = G y

abbrev slotPts (p : Fin 4) (g : Buf (Elt F) ((slotM p).view.loc (thr d L))) : sProp 𝕄 :=
  (slotM p).view.loc (thr d L) ↦[(slotM p).view.set]{fullShare} g
abbrev obPts (f : Buf (Elt F) (obM.view.loc (thr d L))) : sProp 𝕄 := obM.view.loc (thr d L) ↦{fullShare} f
abbrev ptPts (f : Buf (Elt F) (ptM.view.loc (thr d L))) : sProp 𝕄 := ptM.view.loc (thr d L) ↦{fullShare} f
abbrev piPts (f : Buf (Elt F) (piM.view.loc (thr d L))) : sProp 𝕄 := piM.view.loc (thr d L) ↦{fullShare} f

/-- The slot's rows are the block's first 64 columns. -/
def SlotIs (G : S128x80.Idx → F .f32) (p : Fin 4) (g : Buf (Elt F) ((slotM p).view.loc (thr d L))) : Prop :=
  ∀ (y : S128x80.Idx) (z : S128x128.Idx), (z 0).val = (y 0).val → (z 1).val = (y 1).val → (y 1).val < 64 →
    (slotM p).view.read (Elt F) g z = G y

omit [FloatOps F] in
theorem Done.next {G : S128x80.Idx → F .f32} {f : S128x80.Idx → F .f32} {r : Nat} (hf : Done G r 80 f) : Done G (r + 1) 0 f := fun y hy => by
  have : (y 1).val < 80 := (y 1).isLt
  exact hf y (by omega)

omit [FloatOps F] in
/-- A store of sixteen lanes at the head of what is built. -/
theorem Done.store {G : S128x80.Idx → F .f32} {f : S128x80.Idx → F .f32} {r c : Nat} {off : Fin 2 → Nat} (hf : Done G r c f)
    (hoff : off = ![r, c]) (inb : ∀ a, off a + S1x16.size a ≤ S128x80.size a) (v : (Rect.unit (s := S128x80) off S1x16.size inb).shape.Idx → F .f32)
    (hv : ∀ (y : S128x80.Idx) (k : S1x16.Idx), (y 0).val = r → (y 1).val = c + (k 1).val → v k = G y) :
    Done G r (c + 16) (obM.view.writes (Elt F) f [⟨Rect.unit (s := S128x80) off S1x16.size inb, v⟩]) := by
  intro y hy
  show obM.view.read (Elt F) (obM.view.writes (Elt F) f [⟨Rect.unit (s := S128x80) off S1x16.size inb, v⟩]) y = G y
  by_cases h : (y 0).val = r ∧ c ≤ (y 1).val
  · have hlt : (y 1).val < c + 16 := by omega
    have hk : (y 1).val - c < 16 := by omega
    refine (View.read_writes_cons_unit_of_mem (Val := Elt F) (v := obM.view) (off' := ![r, c]) f inb v [] y (ix2 0 (by decide) ((y 1).val - c) hk) hoff ?_).trans ?_
    · intro a; match a with
      | 0 => exact h.1
      | 1 => show (y 1).val = c + ((y 1).val - c); omega
    · exact hv y _ h.1 (by show (y 1).val = c + ((y 1).val - c); omega)
  · have hold : f y = G y := hf y (by omega)
    by_cases h0 : (y 0).val = r
    · refine (View.read_writes_cons_unit_of_not_mem (Val := Elt F) (v := obM.view) (off' := ![r, c]) f inb v [] y hoff 1 (.inl ?_)).trans hold
      show (y 1).val < c; omega
    · refine (View.read_writes_cons_unit_of_not_mem (Val := Elt F) (v := obM.view) (off' := ![r, c]) f inb v [] y hoff 0 (.inl ?_)).trans hold
      show (y 0).val < r; omega

/-- The block's last 16 columns, for the step's chunk: the second table's rows its positions name. -/
def PosIs (G : S128x80.Idx → F .f32) (t : Fin k0_t1_loop.trips) (p : Fin 4) (PI : S6400.Idx → BitVec 32) (W : S64x16.Idx → F .f32) : Prop :=
  ∀ (y : S128x80.Idx) (k : S6400.Idx) (z : S64x16.Idx), (k 0).val = 128 * (4 * t.val + p.val) + (y 0).val →
    (z 0).val = (PI k).toNat → (y 1).val = 64 + (z 1).val → W z = G y

/-- What a row's copies work with: the slot, the second table, and the block built up to row `r`, column `c`. -/
def Blk (G : S128x80.Idx → F .f32) (p : Fin 4) (g : Buf (Elt F) ((slotM p).view.loc (thr d L))) (W : S64x16.Idx → F .f32) (r c : Nat) : sProp 𝕄 :=
  iprop(slotPts d L p g ∗ ptPts d L W ∗ ∃ f, ⌜Done G r c f⌝ ∗ obPts d L f)

theorem cell_run {G : S128x80.Idx → F .f32} {p : Fin 4} {g : Buf (Elt F) ((slotM p).view.loc (thr d L))} (hg : SlotIs d L G p g)
    {W : S64x16.Idx → F .f32} (u : Fin k0_t2_loop.trips) (j : Fin 16) (c : Nat) (hl : c + 16 ≤ 128) (hs : c + 16 ≤ 80) (hc : c + 16 ≤ 64) :
    Blk d L G p g W (16 * u.val + j.val) c
      ⊢ wp frame (wpE (defs₀ (F := F)) 𝒱₀ (thr d L) none) Set.univ (cellProg L p u j c hl hs)
          fun _ => Blk d L G p g W (16 * u.val + j.val) (c + 16) := by
  unfold cellProg Blk
  iintro ⟨Hg, Hw, %f, %hf, Ho⟩
  sl_exec
  sl_step
  isplitl [Hg]; · iexact Hg
  isplitl [Hw]; · iexact Hw
  iexists _
  isplitr
  swap; · iexact Ho
  ipureintro
  refine hf.store (cellOff_eq u j c) _ _ fun y k hy0 hy1 => ?_
  rw [shapeCast_shapeCast]
  rw [View.readAt_apply]
  have hk : (k 1).val < 16 := (k 1).isLt
  have hk0 : (k 0).val < 1 := (k 0).isLt
  refine hg y _ ?_ ?_ (by omega)
  · show cellOff u j.val c 0 + 1 * (k 0).val = _
    rw [cellOff_eq]; show 16 * u.val + j.val + 1 * (k 0).val = _; omega
  · show cellOff u j.val c 1 + 1 * (k 1).val = _
    rw [cellOff_eq]; show c + 1 * (k 1).val = _; omega

theorem pickOff_eq {v : BitVec 32} (hv : v.toNat < 64) : pickOff v = ![v.toNat, 0] := by
  unfold pickOff
  congr 1

theorem chk_of_lt {v : BitVec 32} (hv : v.toNat < 64) (t : Fin k0_t1_loop.trips) (p : Nat) : Chk t p v := by
  intro _ a
  rw [pickOff_eq hv]
  match a with
  | 0 => show v.toNat + 1 ≤ 64; omega
  | 1 => show 0 + 16 ≤ 16; omega

theorem row_run {G : S128x80.Idx → F .f32} {p : Fin 4} {g : Buf (Elt F) ((slotM p).view.loc (thr d L))} (hg : SlotIs d L G p g)
    {W : S64x16.Idx → F .f32} {PI : S6400.Idx → BitVec 32} (t : Fin k0_t1_loop.trips) (hG : PosIs G t p PI W) (hP : ∀ k, (PI k).toNat < 64)
    (h : drainC t p = 1#1) (u : Fin k0_t2_loop.trips) (w : IVec S16 32) (j : Fin 16)
    (k : S6400.Idx) (hk : (k 0).val = 128 * (4 * t.val + p.val) + (16 * u.val + j.val)) (hw : w (ix1 j.val j.isLt) = PI k) :
    Blk d L G p g W (16 * u.val + j.val) 0
      ⊢ wp frame (wpE (defs₀ (F := F)) 𝒱₀ (thr d L) none) Set.univ (rowProg L t p h u w j)
          fun _ => Blk d L G p g W (16 * u.val + j.val + 1) 0 := by
  unfold rowProg
  rw [wp_bind]
  refine (cell_run d L hg u j 0 _ _ (by decide)).trans (wp_mono _ _ _ fun _ => ?_)
  rw [wp_bind]
  refine (cell_run d L hg u j 16 _ _ (by decide)).trans (wp_mono _ _ _ fun _ => ?_)
  rw [wp_bind]
  refine (cell_run d L hg u j 32 _ _ (by decide)).trans (wp_mono _ _ _ fun _ => ?_)
  rw [wp_bind]
  refine (cell_run d L hg u j 48 _ _ (by decide)).trans (wp_mono _ _ _ fun _ => ?_)
  have hv : extractAt ![0] (extractStridedSlice S1 ![j.val] w (lane_slices j) : IVec S1 32) inpos_S1_p0 = PI k := by
    rw [← hw]
    refine congrArg w (funext fun a => Fin.ext ?_)
    match a with
    | 0 => rfl
  have hlt := hv.symm ▸ hP k
  have hchk := chk_of_lt hlt t p
  dsimp only
  unfold Blk
  iintro ⟨Hg, Hw, %f, %hf, Ho⟩
  sl_exec
  sl_step
  isplitl [Hg]; · iexact Hg
  isplitl [Hw]; · iexact Hw
  iexists _
  isplitr
  swap; · iexact Ho
  ipureintro
  refine (hf.store (cellOff_eq u j 64) _ _ fun y q hy0 hy1 => ?_).next
  · rw [shapeCast_shapeCast]
    have hq : (q 1).val < 16 := (q 1).isLt
    have hq0 : (q 0).val < 1 := (q 0).isLt
    refine hG y k _ (by omega) ?_ ?_
    · rw [← hv]
      show pickOff (extractAt ![0] (extractStridedSlice S1 ![j.val] w (lane_slices j) : IVec S1 32) inpos_S1_p0) 0 + 1 * (q 0).val = _
      rw [pickOff_eq hlt]; show BitVec.toNat _ + 1 * (q 0).val = _; omega
    · show _ = 64 + (pickOff (extractAt ![0] (extractStridedSlice S1 ![j.val] w (lane_slices j) : IVec S1 32) inpos_S1_p0) 1 + 1 * (q 1).val)
      rw [pickOff_eq hlt]; show _ = 64 + (0 + 1 * (q 1).val); omega

theorem rows_run {G : S128x80.Idx → F .f32} {p : Fin 4} {g : Buf (Elt F) ((slotM p).view.loc (thr d L))} (hg : SlotIs d L G p g)
    {W : S64x16.Idx → F .f32} {PI : S6400.Idx → BitVec 32} (t : Fin k0_t1_loop.trips) (hG : PosIs G t p PI W) (hP : ∀ k, (PI k).toNat < 64)
    (h : drainC t p = 1#1) (u : Fin k0_t2_loop.trips) (w : IVec S16 32)
    (hw : ∀ (j : Fin 16) (k : S6400.Idx), (k 0).val = 128 * (4 * t.val + p.val) + (16 * u.val + j.val) → w (ix1 j.val j.isLt) = PI k) :
    ∀ (n j : Nat) (hj : j + n = 16), Blk d L G p g W (16 * u.val + j) 0
      ⊢ wp frame (wpE (defs₀ (F := F)) 𝒱₀ (thr d L) none) Set.univ (rowsProg L t p h u w n j hj)
          fun _ => Blk d L G p g W (16 * (u.val + 1)) 0
  | 0, j, hj => by
    obtain rfl : j = 16 := by omega
    show _ ⊢ wp _ _ _ (pure _) _
    rw [wp_pure]
    exact fupd_intro
  | n + 1, j, hj => by
    show _ ⊢ wp _ _ _ (rowProg L t p h u w ⟨j, _⟩ >>= fun _ => rowsProg L t p h u w n (j + 1) _) _
    rw [wp_bind]
    have hr := (drainC_iff t p).mp h
    have hu : u.val < 8 := u.isLt
    have hlt : 128 * (4 * t.val + p.val) + (16 * u.val + j) < 6400 := by omega
    refine (row_run d L hg t hG hP h u w ⟨j, by omega⟩ (ix1 _ hlt) rfl (hw ⟨j, by omega⟩ _ rfl)).trans (wp_mono _ _ _ fun _ => ?_)
    exact rows_run hg t hG hP h u w hw n (j + 1) (by omega)

/-- The group's positions, read. -/
theorem positions_run (PI : S6400.Idx → BitVec 32) (t : Fin k0_t1_loop.trips) (p : Fin 4) (h : drainC t p = 1#1) (u : Fin k0_t2_loop.trips) :
    piPts d L PI ⊢ wp frame (wpE (defs₀ (F := F)) 𝒱₀ (thr d L) none) Set.univ
      (Prog.lift (.load piM (Rect.unit (s := S6400) (posOff t u p) S16.size (posOff_inb t u p h)).toLoadRect (View.loadsAt_vmem h_S16)) :
        Prog (TpuEff nD τ sig (Elt F) Λ₀ (.scVector ((L 0).castLE hcore0) ((L 1).castLE hsub0))) (Vec F S16 .i32))
      fun w => iprop(⌜∀ (j : Fin 16) (k : S6400.Idx), (k 0).val = 128 * (4 * t.val + p.val) + (16 * u.val + j.val) → w (ix1 j.val j.isLt) = PI k⌝ ∗ piPts d L PI) := by
  iintro Hp
  sl_exec
  sl_step
  isplitr
  swap; · iexact Hp
  ipureintro
  intro j k hk
  rw [View.readAt_apply]
  refine congrArg PI (funext fun a => Fin.ext ?_)
  match a with
  | 0 =>
    show posOff t u p 0 + 1 * j.val = _
    rw [posOff_eq, hk]
    show 128 * (4 * t.val + p.val) + 16 * u.val + 1 * j.val = _
    omega

/-- A group of sixteen rows. -/
theorem group_run {G : S128x80.Idx → F .f32} {p : Fin 4} {g : Buf (Elt F) ((slotM p).view.loc (thr d L))} (hg : SlotIs d L G p g)
    {W : S64x16.Idx → F .f32} {PI : S6400.Idx → BitVec 32} (t : Fin k0_t1_loop.trips) (hG : PosIs G t p PI W) (hP : ∀ k, (PI k).toNat < 64)
    (h : drainC t p = 1#1) (u : Fin k0_t2_loop.trips) :
    iprop(piPts d L PI ∗ Blk d L G p g W (16 * u.val) 0)
      ⊢ wp frame (wpE (defs₀ (F := F)) 𝒱₀ (thr d L) none) Set.univ (groupProg L t p h u)
          fun _ => iprop(piPts d L PI ∗ Blk d L G p g W (16 * (u.val + 1)) 0) := by
  unfold groupProg
  rw [wp_bind]
  iintro ⟨Hp, HB⟩
  iapply (wp_wand_r _ _ _)
  isplitl [Hp]
  · iapply (positions_run d L PI t p h u); iexact Hp
  · iintro %w ⟨%hw, Hp⟩
    iapply (wp_wand_r _ _ _)
    isplitl [HB]
    · iapply (rows_run d L hg t hG hP h u _ (fun j k hk => by rw [shapeCast_self]; exact hw j k hk) 16 0 rfl)
      iexact HB
    · iintro %_ HB
      isplitl [Hp] <;> iassumption

end

end Cert.Proof.Lookup
-- ==== Proof.Ring.lean ====
/-
  The ring of gathers: what a slot holds between steps, starting a chunk's gather, and a step's wait and copy-out.
-/
module

public import proofs.«01_k».proof.Proof.Rows

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## A task's rows -/

section
variable (L : grid0.Coords)

/-- The task's first row of the call. -/
def baseN : Nat := 12800 * (L 1).val + 6400 * (L 0).val

theorem baseN_le : baseN L + 6400 ≤ 204800 := by
  have h0 : (L 0).val < 2 := (L 0).isLt
  have h1 : (L 1).val < 16 := (L 1).isLt
  unfold baseN; omega

/-- The task's block of a flat array of row numbers. -/
def blockOf (X : S204800.Idx → BitVec 32) : S6400.Idx → BitVec 32 := fun k =>
  X (ix1 (baseN L + (k 0).val) (by have := baseN_le L; have : (k 0).val < 6400 := (k 0).isLt; omega))

/-- The rows the task writes. -/
def outSet : Finset S204800x80.Idx := Finset.univ.filter fun y => baseN L ≤ (y 0).val ∧ (y 0).val < baseN L + 6400

/-- An index of a chunk's block as an index of the call's result, -/
def chunkIx (g : Fin 50) (y : S128x80.Idx) : S204800x80.Idx :=
  ix2 (baseN L + 128 * g.val + (y 0).val) (by have := baseN_le L; have : (y 0).val < 128 := (y 0).isLt; omega) (y 1).val (y 1).isLt

/-- and what the block is to hold. -/
def chunkG (X P : S204800.Idx → BitVec 32) (Tb : S1000002x128.Idx → F .f32) (Wb : S64x16.Idx → F .f32) (g : Fin 50) : S128x80.Idx → F .f32 :=
  fun y => OUT X P Tb Wb (chunkIx L g y)

theorem posIs_chunkG (X P : S204800.Idx → BitVec 32) (hP : ∀ j, (P j).toNat < 64) (Tb : S1000002x128.Idx → F .f32) (Wb : S64x16.Idx → F .f32)
    (t : Fin k0_t1_loop.trips) (p : Fin 4) (hg : 4 * t.val + p.val < 50) :
    PosIs (chunkG L X P Tb Wb ⟨4 * t.val + p.val, hg⟩) t p (blockOf L P) Wb := by
  intro y k z hk hz hy
  unfold chunkG OUT
  have hn : ¬ (chunkIx L ⟨4 * t.val + p.val, hg⟩ y 1).val < 64 := by show ¬ (y 1).val < 64; omega
  rw [dif_neg hn]
  refine congrArg Wb (funext fun a => Fin.ext ?_)
  match a with
  | 0 =>
    show (z 0).val = pick 63 (P _)
    rw [pick_of_lt (hP _), hz]
    unfold blockOf
    refine congrArg (fun j => (P j).toNat) (funext fun b => Fin.ext ?_)
    match b with
    | 0 => show baseN L + (k 0).val = baseN L + 128 * (4 * t.val + p.val) + (y 0).val; omega
  | 1 => show (z 1).val = (y 1).val - 64; omega

end

/-! ## A slot -/

section
variable [FloatOps F] (d : Dev nD) (L : grid0.Coords)
variable (X P : S204800.Idx → BitVec 32) (Tb : S1000002x128.Idx → F .f32) (Wb : S64x16.Idx → F .f32) (q : PosShare TreeShare)

/-- Slot `p`'s share of the table, -/
abbrev wtPts (p : Fin 4) : sProp 𝕄 :=
  wtS.view.loc (thr d L) ↦[wtS.view.set]{pieceOf q 4 (by decide) p} Tb
/-- and of the task's row numbers. -/
abbrev xiPts (p : Fin 4) : sProp 𝕄 :=
  xiM.view.loc (thr d L) ↦{pieceOf fullShare 4 (by decide) p} blockOf L X

abbrev slotCell (p : Fin 4) : GSem nD τ sig := (thr d L, .dma (slotSem p))
abbrev outCell (p : Fin 4) : GSem nD τ sig := (thr d L, .dma (outSem p))

/-- A slot at rest. -/
def Idle (p : Fin 4) : sProp 𝕄 :=
  iprop((∃ b, slotPts d L p b) ∗ wtPts d L Tb q p ∗ xiPts d L X p ∗ semVal (slotCell d L p) 0)

/-- A slot whose gather has landed. -/
def Landed (p : Fin 4) (g : Fin 50) : sProp 𝕄 :=
  iprop((∃ b, ⌜SlotIs d L (chunkG L X P Tb Wb g) p b⌝ ∗ slotPts d L p b) ∗ wtPts d L Tb q p ∗ xiPts d L X p)

/-- A slot whose gather is on its way: the transfer, and what makes a landed slot of its delivery. -/
def Fly (p : Fin 4) (g : Fin 50) : sProp 𝕄 :=
  iprop(∃ Dl : sProp 𝕄, Transfers.Flight countersEmb (thr d L) (.dma (slotSem p)) (default : HIx 1) (slotM p).view.dmaCredit Dl
    ∗ (Dl -∗ Landed d L X P Tb Wb q p g))

/-- A slot between steps. -/
def Slot (p : Fin 4) (g : Nat) : sProp 𝕄 :=
  if h : g < 50 then Fly d L X P Tb Wb q p ⟨g, h⟩ else Idle d L X Tb q p

/-- The list a gather reads: a chunk of the task's row numbers. -/
abbrev listM (o : Fin 1 → Nat) (ho : ∀ a, o a + S128.size a ≤ S6400.size a) : Memref sig .scVector .vmem S128 .i32 :=
  xiM.slice (Rect.unit (s := S6400) o S128.size ho) (fun _ => rfl)

omit [FloatOps F] in
theorem list_read (o : Fin 1 → Nat) (ho : ∀ a, o a + S128.size a ≤ S6400.size a) (XI : S6400.Idx → BitVec 32) (x : S128.Idx) :
    (listM o ho).view.read (Elt F) XI x = XI (ix1 (o 0 + (x 0).val) (by have := ho 0; have h : (x 0).val < 128 := (x 0).isLt; show _ < 6400; have h' : o 0 + 128 ≤ 6400 := this; omega)) := by
  refine congrArg XI (funext fun a => Fin.ext ?_)
  match a with
  | 0 => show o 0 + 1 * (x 0).val = o 0 + (x 0).val; omega

theorem slotCredit (p : Fin 4) : ∀ h : S1000002x128.Gathers 0 S128x128,
    ∑ j, ((slotM p).slice (S128x128.rowRect h.axis' j) (S128x128.stride_rowRect h.axis' j)).view.dmaCredit = (slotM p).view.dmaCredit := by
  revert p; decide

/-- What a gather leaves in its slot. -/
theorem slotIs_gather (hX : ∀ j, (X j).toNat < 1000002) (p : Fin 4) (g : Fin 50) (o : Fin 1 → Nat) (ho : ∀ a, o a + S128.size a ≤ S6400.size a)
    (hog : o = ![128 * g.val]) (fd : Buf (Elt F) ((slotM p).view.loc (thr d L)))
    (hin : ∀ x, ((listM o ho).view.read (Elt F) (blockOf L X) x).toNat < S1000002x128.size gathers_S1000002x128_S128x128.axis) :
    SlotIs d L (chunkG L X P Tb Wb g) p
      ((slotM p).view.write (Elt F) fd (SparseCore.gatherPayload gathers_S1000002x128_S128x128 (wtS.view.read (Elt F) Tb)
        (SparseCore.rows ((listM o ho).view.read (Elt F) (blockOf L X)) rfl hin)) Finset.univ) := by
  intro y z h0 h1 hy
  rw [View.read_write_univ]
  unfold chunkG OUT
  have hp : (chunkIx L g y 1).val < 64 := hy
  rw [dif_pos hp]
  refine congrArg Tb (funext fun a => Fin.ext ?_)
  match a with
  | 0 =>
    show 0 + 1 * (gathers_S1000002x128_S128x128.idx _ z gathers_S1000002x128_S128x128.axis).val = pick 1000001 (X _)
    rw [Shape.Gathers.idx_axis, pick_of_lt (hX _)]
    show 0 + 1 * ((listM o ho).view.read (Elt F) (blockOf L X) (S128.rowMajor.symm _)).toNat = _
    rw [list_read]
    unfold blockOf
    rw [Nat.zero_add, Nat.one_mul]
    refine congrArg (fun j => (X j).toNat) (funext fun b => Fin.ext ?_)
    match b with
    | 0 =>
      have hr : ((S128.rowMajor.symm ((z 0).cast rfl)) 0).val = (z 0).val := by
        have := Shape.rowMajor_val_one (S128.rowMajor.symm ((z 0).cast rfl))
        rw [← this]
        exact congrArg Fin.val (Equiv.apply_symm_apply _ _)
      show baseN L + (o 0 + ((S128.rowMajor.symm _) 0).val) = baseN L + 128 * g.val + (y 0).val
      rw [hog]
      have hr' := hr.trans h0
      show baseN L + (128 * g.val + ((S128.rowMajor.symm _) 0).val) = baseN L + 128 * g.val + (y 0).val
      rw [← hr', Nat.add_assoc]; rfl
  | 1 =>
    show 0 + 1 * (gathers_S1000002x128_S128x128.idx _ z (1 : Fin 2)).val = (y 1).val
    rw [Shape.Gathers.idx_of_ne _ _ _ _ (by decide)]
    rw [Nat.zero_add, Nat.one_mul]; exact h1

theorem fetch_run {α : Type} (hX : ∀ j, (X j).toNat < 1000002) (p : Fin 4) (g : Fin 50) (o : Fin 1 → Nat) (ho : ∀ a, o a + S128.size a ≤ S6400.size a)
    (hog : o = ![128 * g.val])
    (k : Prog (TpuEff nD τ sig (Elt F) Λ₀ (.scVector ((L 0).castLE hcore0) ((L 1).castLE hsub0))) α) {Q : α → sProp 𝕄} :
    iprop(Idle d L X Tb q p ∗ (Fly d L X P Tb Wb q p g -∗ wp frame (wpE (defs₀ (F := F)) 𝒱₀ (thr d L) none) Set.univ k Q))
      ⊢ wp frame (wpE (defs₀ (F := F)) 𝒱₀ (thr d L) none) Set.univ (fetchProg L p o ho >>= fun _ => k) Q := by
  have hin : ∀ x, ((listM o ho).view.read (Elt F) (blockOf L X) x).toNat < S1000002x128.size gathers_S1000002x128_S128x128.axis := fun x => by
    rw [list_read]; exact hX _
  unfold fetchProg Idle
  iintro ⟨⟨⟨%b, Hb⟩, Hw, Hx, Hsem⟩, Hk⟩
  ihave Hxs := (pointsTo_split_subset (q := pieceOf fullShare 4 _ p) (f := (blockOf L X : Buf (Elt F) (xiM.view.loc (thr d L)))) (S := Finset.univ)
    (Finset.subset_univ (listM o ho).view.set)).1 $$ Hx
  icases Hxs with ⟨Hxs, Hxr⟩
  iapply (SparseCore.wp_indirectGatherLocal countersEmb 𝒱₀ (thr d L) none (hg := gathers_S1000002x128_S128x128) (default : HIx 1)
      (slotM p).view.dmaCredit (slotCredit p _) (by decide) hin) $$ [Hw Hb Hxs Hsem]
  · isplitl [Hw]; · iexact Hw
    isplitl [Hb]; · iexact Hb
    isplitl [Hxs]; · iexact Hxs
    iexact Hsem
  iintro Hfl
  iapply Hk
  unfold Fly
  iexists _
  isplitl [Hfl]; · iexact Hfl
  iintro ⟨Hb, Hw, Hxs⟩
  unfold Landed
  isplitl [Hb]
  · iexists _
    isplitr
    swap; · iexact Hb
    ipureintro
    exact slotIs_gather d L X P Tb Wb hX p g o ho hog b hin
  isplitl [Hw]; · iexact Hw
  iapply (pointsTo_split_subset (q := pieceOf fullShare 4 _ p) (f := (blockOf L X : Buf (Elt F) (xiM.view.loc (thr d L)))) (S := Finset.univ)
    (Finset.subset_univ (listM o ho).view.set)).2
  isplitl [Hxs] <;> iassumption

/-- Starting a fetch three chunks ahead: the slot before the step's own goes from rest to the chunk it is for. -/
theorem fire_run {α : Type} (hX : ∀ j, (X j).toNat < 1000002) (t : Fin k0_t1_loop.trips) (p p' : Fin 4) (hp : p + 3 = p') (g : Nat) (hg : g = 4 * t.val + p.val + 3)
    (k : Prog (TpuEff nD τ sig (Elt F) Λ₀ (.scVector ((L 0).castLE hcore0) ((L 1).castLE hsub0))) α) {Q : α → sProp 𝕄} :
    iprop(Idle d L X Tb q p' ∗ (Slot d L X P Tb Wb q p' g -∗ wp frame (wpE (defs₀ (F := F)) 𝒱₀ (thr d L) none) Set.univ k Q))
      ⊢ wp frame (wpE (defs₀ (F := F)) 𝒱₀ (thr d L) none) Set.univ (fireThen L t p k) Q := by
  subst hp hg
  unfold fireThen Slot
  by_cases h : fireC t p = 1#1
  · have hlt := (fireC_iff t p).mp h
    rw [dif_pos h, dif_pos hlt]
    exact fetch_run d L X P Tb Wb q hX (p + 3) ⟨4 * t.val + p.val + 3, hlt⟩ _ _ (fireOff_eq t p) k
  · have hlt : ¬ 4 * t.val + p.val + 3 < 50 := fun hh => h ((fireC_iff t p).mpr hh)
    rw [dif_neg h, dif_neg hlt]
    iintro ⟨HI, Hk⟩
    iapply Hk
    iexact HI

/-! ## A step's wait and copy-out -/

/-- The task's rows of the call's result, the first `g` chunks of them written. -/
def OutSt (g : Nat) : sProp 𝕄 :=
  iprop(∃ f : S204800x80.Idx → F .f32, ⌜∀ y ∈ outSet L, (y 0).val < baseN L + 128 * g → f y = OUT X P Tb Wb y⌝ ∗ outLoc d ↦[outSet L]{fullShare} f)

/-- What a step works with beside its slot. -/
def Rest (O : CellTallies nD τ sig (HIx 1)) (W : Waits sig (HIx 1)) (g : Nat) : sProp 𝕄 :=
  iprop(OutSt d L X P Tb Wb g ∗ piPts d L (blockOf L P) ∗ ptPts d L Wb ∗ (∃ f, obPts d L f)
    ∗ (bigSep Finset.univ fun p : Fin 4 => semVal (outCell d L p) 0)
    ∗ ∃ W', ⌜∀ x ∈ W', x ∈ W ∨ x.2 = none⌝ ∗ owes (thr d L) O W')

omit [FloatOps F] in
theorem mem_outS (t : Fin k0_t1_loop.trips) (p : Fin 4) (h : drainC t p = 1#1) (y : S204800x80.Idx) :
    y ∈ (outS L t p h).view.set ↔ baseN L + 128 * (4 * t.val + p.val) ≤ (y 0).val ∧ (y 0).val < baseN L + 128 * (4 * t.val + p.val) + 128 := by
  have hset : (outS L t p h).view.set = (Rect.unit (s := S204800x80) (outOff L t p) S128x80.size (outOff_inb L t p h)).set := View.set_slice_whole _ _
  rw [hset, Rect.mem_set_unit]
  have h0 : outOff L t p 0 = baseN L + 128 * (4 * t.val + p.val) := by rw [outOff_eq]; rfl
  have h1 : outOff L t p 1 = 0 := by rw [outOff_eq]; rfl
  constructor
  · intro hy
    have := hy 0
    rw [h0] at this
    exact this
  · intro hy a
    match a with
    | 0 => show outOff L t p 0 ≤ (y 0).val ∧ (y 0).val < outOff L t p 0 + 128; rw [h0]; exact hy
    | 1 =>
      have h80 : (y 1).val < 80 := (y 1).isLt
      show outOff L t p 1 ≤ (y 1).val ∧ (y 1).val < outOff L t p 1 + 80; rw [h1]; omega

omit [FloatOps F] in
theorem outS_subset (t : Fin k0_t1_loop.trips) (p : Fin 4) (h : drainC t p = 1#1) : (outS L t p h).view.set ⊆ outSet L := by
  have hlt := (drainC_iff t p).mp h
  intro y hy
  have := (mem_outS L t p h y).mp hy
  exact Finset.mem_filter.mpr ⟨Finset.mem_univ _, by omega⟩

omit [FloatOps F] in
/-- What a copy of a block into a view leaves: the block under the view, -/
theorem writes_whole_emb (m : Memref sig .scVector .hbm S128x80 .f32) (f : m.view.ty.Contents (Elt F)) (v : S128x80.Idx → F .f32) (x : S128x80.Idx) :
    m.view.read (Elt F) (m.view.writes (Elt F) f [⟨Rect.whole S128x80, v⟩]) x = v x :=
  View.read_writes_cons_unit_of_mem (Val := Elt F) (v := m.view) (off := fun _ => 0) (off' := fun _ => 0) f (fun a => (Nat.zero_add _).le) v [] x x rfl fun _ => (Nat.zero_add _).symm

omit [FloatOps F] in
/-- and what was there off it. -/
theorem writes_whole_off (m : Memref sig .scVector .hbm S128x80 .f32) (f : m.view.ty.Contents (Elt F)) (v : S128x80.Idx → F .f32) (i : m.view.ty.Idx)
    (hi : i ∉ m.view.set) : m.view.writes (Elt F) f [⟨Rect.whole S128x80, v⟩] i = f i := by
  rw [View.writes_singleton]
  exact View.write_of_not_mem _ _ _ (by rw [View.setOn_univ]; exact fun h => hi (View.set_slice_subset _ _ h))

omit [FloatOps F] in
/-- The rows written after a chunk's block is copied out. -/
theorem out_write (t : Fin k0_t1_loop.trips) (p : Fin 4) (h : drainC t p = 1#1) (hlt : 4 * t.val + p.val < 50) (f : S204800x80.Idx → F .f32)
    (hf : ∀ y ∈ outSet L, (y 0).val < baseN L + 128 * (4 * t.val + p.val) → f y = OUT X P Tb Wb y) :
    ∀ y ∈ outSet L, (y 0).val < baseN L + 128 * (4 * t.val + p.val + 1) →
      (outS L t p h).view.writes (Elt F) f [⟨Rect.whole S128x80, chunkG L X P Tb Wb ⟨4 * t.val + p.val, hlt⟩⟩] y = OUT X P Tb Wb y := by
  intro y hy hlt'
  by_cases hm : y ∈ (outS L t p h).view.set
  · have hb := (mem_outS L t p h y).mp hm
    let x : S128x80.Idx := ix2 ((y 0).val - (baseN L + 128 * (4 * t.val + p.val))) (by omega) (y 1).val (y 1).isLt
    have hx : (outS L t p h).view.emb x = y := by
      funext a; apply Fin.ext
      match a with
      | 0 =>
        show outOff L t p 0 + 1 * ((y 0).val - (baseN L + 128 * (4 * t.val + p.val))) = (y 0).val
        rw [outOff_eq]
        show baseN L + 128 * (4 * t.val + p.val) + 1 * ((y 0).val - (baseN L + 128 * (4 * t.val + p.val))) = (y 0).val
        omega
      | 1 =>
        show outOff L t p 1 + 1 * (y 1).val = (y 1).val
        rw [outOff_eq]
        show 0 + 1 * (y 1).val = (y 1).val
        omega
    have hc : chunkIx L ⟨4 * t.val + p.val, hlt⟩ x = y := by
      funext a; apply Fin.ext
      match a with
      | 0 => show baseN L + 128 * (4 * t.val + p.val) + ((y 0).val - (baseN L + 128 * (4 * t.val + p.val))) = (y 0).val; omega
      | 1 => rfl
    have h2 : (outS L t p h).view.writes (Elt F) f [⟨Rect.whole S128x80, chunkG L X P Tb Wb ⟨4 * t.val + p.val, hlt⟩⟩] ((outS L t p h).view.emb x)
        = chunkG L X P Tb Wb ⟨4 * t.val + p.val, hlt⟩ x := writes_whole_emb (outS L t p h) f _ x
    rw [hx] at h2
    rw [h2]; unfold chunkG; rw [hc]
  · have hb : ¬ _ := fun hh => hm ((mem_outS L t p h y).mpr hh)
    rw [writes_whole_off (outS L t p h) f _ y hm]
    exact hf y hy (by have := (Finset.mem_filter.mp hy).2; omega)

set_option maxRecDepth 20000 in
/-- The eight groups of a chunk's block. -/
theorem groups_run {G : S128x80.Idx → F .f32} {p : Fin 4} {g : Buf (Elt F) ((slotM p).view.loc (thr d L))} (hg : SlotIs d L G p g)
    {W : S64x16.Idx → F .f32} {PI : S6400.Idx → BitVec 32} (t : Fin k0_t1_loop.trips) (hG : PosIs G t p PI W) (hP : ∀ k, (PI k).toNat < 64)
    (h : drainC t p = 1#1) :
    iprop(piPts d L PI ∗ Blk d L G p g W 0 0)
      ⊢ wp frame (wpE (defs₀ (F := F)) 𝒱₀ (thr d L) none) Set.univ (Scf.Loop.for k0_t2_loop groups_ok PUnit.unit fun u _ => groupProg L t p h u)
          fun _ => iprop(piPts d L PI ∗ Blk d L G p g W 128 0) := by
  iintro H
  iapply (Scf.wp_for _ _ _ _ _ _ groups_ok _ _ (fun u _ => iprop(piPts d L PI ∗ Blk d L G p g W (16 * u) 0)) (fun u _ => group_run d L hg t hG hP h u))
  isplitl [H]; · iexact H
  iintro %_ H
  iexact H

/-- A step's drain, when it has a chunk. -/
theorem drain_run {α : Type} (hP : ∀ j, (P j).toNat < 64) (O : CellTallies nD τ sig (HIx 1)) (W : Waits sig (HIx 1))
    (t : Fin k0_t1_loop.trips) (p : Fin 4) (g : Nat) (hg : g = 4 * t.val + p.val)
    (k : Prog (TpuEff nD τ sig (Elt F) Λ₀ (.scVector ((L 0).castLE hcore0) ((L 1).castLE hsub0))) α) {Q : α → sProp 𝕄} :
    iprop(Transfers.MayWaits (thr d L) (default : HIx 1) O ∗ Slot d L X P Tb Wb q p g ∗ Rest d L X P Tb Wb O W g
        ∗ (Idle d L X Tb q p ∗ Rest d L X P Tb Wb O W (g + 1) -∗ wp frame (wpE (defs₀ (F := F)) 𝒱₀ (thr d L) none) Set.univ k Q))
      ⊢ wp frame (wpE (defs₀ (F := F)) 𝒱₀ (thr d L) none) Set.univ (drainThen L t p k) Q := by
  subst hg
  unfold drainThen Slot
  by_cases h : drainC t p = 1#1
  · have hlt := (drainC_iff t p).mp h
    rw [dif_pos h, dif_pos hlt]
    have hpos := posIs_chunkG L X P hP Tb Wb t p hlt
    have hP' : ∀ j, (blockOf L P j).toNat < 64 := fun _ => hP _
    unfold Fly Rest OutSt
    rw [SparseCore.bigSep_erase' (Finset.mem_univ p)]
    iintro ⟨#Hmw, ⟨%Dl, Hfl, Hld⟩, ⟨⟨%f, %hf, Hout⟩, Hpi, Hpt, ⟨%b0, Hob⟩, ⟨Hsem, Hsems⟩, %W', %hW', HO⟩, Hk⟩
    sl_exec
    iapply (Transfers.wp_waitLocalO countersEmb 𝒱₀ (thr d L) none (default : HIx 1) (rfl : (slotM p).view.dmaCredit = _)) $$ [Hfl HO]
    · isplitl [Hfl]; · iexact Hfl
      isplitl [HO]; · iexact HO
      iapply (Transfers.MayWaits.elim (SemLoc.dma (slotSem p))) $$ Hmw
    iintro ⟨HD, Hss, HO⟩
    ihave Hl := Hld $$ HD
    unfold Landed
    icases Hl with ⟨⟨%b, %hb, Hb⟩, Hw, Hx⟩
    rw [wp_ret]
    imodintro
    dsimp only
    rw [wp_bind]
    iapply (wp_wand_r _ _ _)
    isplitl [Hpi Hb Hpt Hob]
    · iapply (groups_run d L hb t hpos hP' h)
      isplitl [Hpi]; · iexact Hpi
      unfold Blk
      isplitl [Hb]; · iexact Hb
      isplitl [Hpt]; · iexact Hpt
      iexists b0
      isplitr; · ipureintro; intro y hy; omega
      iexact Hob
    iintro %_ ⟨Hpi, HB⟩
    unfold Blk
    icases HB with ⟨Hb, Hpt, %b1, %hb1, Hob⟩
    obtain rfl : b1 = chunkG L X P Tb Wb ⟨4 * t.val + p.val, hlt⟩ := funext fun y => hb1 y (.inl (show (y 0).val < 128 from (y 0).isLt))
    ihave Hsp := (pointsTo_split_subset (q := fullShare) (f := (f : Buf (Elt F) (outLoc d))) (outS_subset L t p h)).1 $$ Hout
    icases Hsp with ⟨Ho, Hor⟩
    ihave Ho' := (show (outLoc d ↦[(outS L t p h).view.set]{fullShare} f : sProp 𝕄) ⊢ (outS L t p h).view.loc (thr d L) ↦[(outS L t p h).view.set]{fullShare} f from .rfl) $$ Ho
    sl_exec
    iapply Hk
    isplitl [Hb Hw Hx Hss]
    · unfold Idle
      isplitl [Hb]; · iexists b; iexact Hb
      isplitl [Hw]; · iexact Hw
      isplitl [Hx]; · iexact Hx
      iexact Hss
    isplitl [Ho' Hor]
    · ihave Hor' := (Entails.of_eq (pointsTo_congr (q := fullShare) (ℓ := outLoc d) (I := outSet L \ (outS L t p h).view.set)
          (fun y hy => (writes_whole_off (outS L t p h) f (chunkG L X P Tb Wb ⟨4 * t.val + p.val, hlt⟩) y (Finset.mem_sdiff.mp hy).2).symm))) $$ Hor
      ihave Hout := (pointsTo_split_subset (q := fullShare) (ℓ := outLoc d)
          (f := ((outS L t p h).view.writes (Elt F) f [⟨Rect.whole S128x80, chunkG L X P Tb Wb ⟨4 * t.val + p.val, hlt⟩⟩] : Buf (Elt F) (outLoc d)))
          (outS_subset L t p h)).2 $$ [Ho' Hor']
      · isplitl [Ho']; · iexact Ho'
        iexact Hor'
      iexists _
      isplitr
      swap; · iexact Hout
      ipureintro
      exact out_write L X P Tb Wb t p h hlt f hf
    isplitl [Hpi]; · iexact Hpi
    isplitl [Hpt]; · iexact Hpt
    isplitl [Hob]; · iexists _; iexact Hob
    isplitl [Hsem Hsems]
    · isplitl [Hsem] <;> iassumption
    iexists _
    isplitr
    swap; · iexact HO
    ipureintro
    intro x hx
    rcases Finset.mem_insert.mp hx with hx | hx; · exact .inr (hx ▸ rfl)
    rcases Finset.mem_insert.mp hx with hx | hx; · exact .inr (hx ▸ rfl)
    exact hW' x hx
  · have hlt : ¬ 4 * t.val + p.val < 50 := fun hh => h ((drainC_iff t p).mpr hh)
    rw [dif_neg h, dif_neg hlt]
    iintro ⟨-, HI, HR, Hk⟩
    iapply Hk
    isplitl [HI]; · iexact HI
    unfold Rest OutSt
    icases HR with ⟨⟨%f, %hf, Hout⟩, HR⟩
    isplitl [Hout]
    · iexists f
      isplitr
      · ipureintro; intro y hy _
        exact hf y hy (by have := (Finset.mem_filter.mp hy).2; omega)
      · iexact Hout
    · iexact HR

end

end Cert.Proof.Lookup
-- ==== Proof.Tile.lean ====
/-
  The task: its copies in, the trips of the ring, and what it leaves of its rows of the call's result.
-/
module

public import proofs.«01_k».proof.Proof.Ring

@[expose] public section

noncomputable section

namespace Cert.Proof.Lookup

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The trips -/

section
variable [FloatOps F] (d : Dev nD) (L : grid0.Coords)
variable (X P : S204800.Idx → BitVec 32) (Tb : S1000002x128.Idx → F .f32) (Wb : S64x16.Idx → F .f32) (q : PosShare TreeShare)

attribute [local irreducible] fireThen drainThen

/-- Before a trip: three chunks on their way, the last slot at rest. -/
def Trips (O : CellTallies nD τ sig (HIx 1)) (W : Waits sig (HIx 1)) (t : Nat) : sProp 𝕄 :=
  iprop(Transfers.MayWaits (thr d L) (default : HIx 1) O ∗ Slot d L X P Tb Wb q 0 (4 * t) ∗ Slot d L X P Tb Wb q 1 (4 * t + 1) ∗ Slot d L X P Tb Wb q 2 (4 * t + 2)
    ∗ Idle d L X Tb q 3 ∗ Rest d L X P Tb Wb O W (4 * t))

/-- One step of a trip: the chunk three ahead goes out into the slot at rest, and the slot's own chunk is finished. -/
theorem step_run {α : Type} (hX : ∀ j, (X j).toNat < 1000002) (hP : ∀ j, (P j).toNat < 64) (O : CellTallies nD τ sig (HIx 1)) (W : Waits sig (HIx 1))
    (t : Fin k0_t1_loop.trips) (p p' : Fin 4) (hp : p + 3 = p') (g : Nat) (hg : g = 4 * t.val + p.val)
    (k : Prog (TpuEff nD τ sig (Elt F) Λ₀ (.scVector ((L 0).castLE hcore0) ((L 1).castLE hsub0))) α) {Q : α → sProp 𝕄} :
    iprop(Transfers.MayWaits (thr d L) (default : HIx 1) O ∗ Idle d L X Tb q p' ∗ Slot d L X P Tb Wb q p g ∗ Rest d L X P Tb Wb O W g
        ∗ (Slot d L X P Tb Wb q p' (g + 3) ∗ Idle d L X Tb q p ∗ Rest d L X P Tb Wb O W (g + 1)
          -∗ wp frame (wpE (defs₀ (F := F)) 𝒱₀ (thr d L) none) Set.univ k Q))
      ⊢ wp frame (wpE (defs₀ (F := F)) 𝒱₀ (thr d L) none) Set.univ (fireThen L t p (drainThen L t p k)) Q := by
  iintro ⟨#Hmw, HI, HS, HR, Hk⟩
  iapply (fire_run d L X P Tb Wb q hX t p p' hp (g + 3) (by omega))
  isplitl [HI]; · iexact HI
  iintro HI
  iapply (drain_run d L X P Tb Wb q hP O W t p g hg)
  isplitr; · iexact Hmw
  isplitl [HS]; · iexact HS
  isplitl [HR]; · iexact HR
  iintro ⟨HS, HR⟩
  iapply Hk
  isplitl [HI]; · iexact HI
  isplitl [HS]; · iexact HS
  iexact HR

theorem early_run (hX : ∀ j, (X j).toNat < 1000002) (hP : ∀ j, (P j).toNat < 64) (O : CellTallies nD τ sig (HIx 1)) (W : Waits sig (HIx 1))
    (t : Fin k0_t1_loop.trips) :
    Trips d L X P Tb Wb q O W t.val
      ⊢ wp frame (wpE (defs₀ (F := F)) 𝒱₀ (thr d L) none) Set.univ (earlyProg L t)
          fun _ => iprop(Transfers.MayWaits (thr d L) (default : HIx 1) O ∗ Slot d L X P Tb Wb q 3 (4 * t.val + 3) ∗ Slot d L X P Tb Wb q 0 (4 * t.val + 4)
            ∗ Slot d L X P Tb Wb q 2 (4 * t.val + 2) ∗ Slot d L X P Tb Wb q 1 (4 * t.val + 5) ∗ Rest d L X P Tb Wb O W (4 * t.val + 2)) := by
  unfold Trips earlyProg
  iintro ⟨#Hmw, H0, H1, H2, H3, HR⟩
  iapply (step_run d L X P Tb Wb q hX hP O W t 0 3 (by decide) (4 * t.val) rfl)
  isplitr; · iexact Hmw
  isplitl [H3]; · iexact H3
  isplitl [H0]; · iexact H0
  isplitl [HR]; · iexact HR
  iintro ⟨H3, H0, HR⟩
  iapply (step_run d L X P Tb Wb q hX hP O W t 1 0 (by decide) (4 * t.val + 1) rfl)
  isplitr; · iexact Hmw
  isplitl [H0]; · iexact H0
  isplitl [H1]; · iexact H1
  isplitl [HR]; · iexact HR
  iintro ⟨H0, H1, HR⟩
  iapply (fire_run d L X P Tb Wb q hX t 2 1 (by decide) (4 * t.val + 5) rfl)
  isplitl [H1]; · iexact H1
  iintro H1
  rw [wp_pure]
  imodintro
  isplitr; · iexact Hmw
  isplitl [H3]; · iexact H3
  isplitl [H0]; · iexact H0
  isplitl [H2]; · iexact H2
  isplitl [H1]; · iexact H1
  iexact HR

theorem late_run (hX : ∀ j, (X j).toNat < 1000002) (hP : ∀ j, (P j).toNat < 64) (O : CellTallies nD τ sig (HIx 1)) (W : Waits sig (HIx 1))
    (t : Fin k0_t1_loop.trips) :
    iprop(Transfers.MayWaits (thr d L) (default : HIx 1) O ∗ Slot d L X P Tb Wb q 3 (4 * t.val + 3) ∗ Slot d L X P Tb Wb q 0 (4 * t.val + 4)
            ∗ Slot d L X P Tb Wb q 2 (4 * t.val + 2) ∗ Slot d L X P Tb Wb q 1 (4 * t.val + 5) ∗ Rest d L X P Tb Wb O W (4 * t.val + 2))
      ⊢ wp frame (wpE (defs₀ (F := F)) 𝒱₀ (thr d L) none) Set.univ (lateProg L t) fun _ => Trips d L X P Tb Wb q O W (t.val + 1) := by
  unfold Trips lateProg
  iintro ⟨#Hmw, H3, H0, H2, H1, HR⟩
  iapply (drain_run d L X P Tb Wb q hP O W t 2 (4 * t.val + 2) rfl)
  isplitr; · iexact Hmw
  isplitl [H2]; · iexact H2
  isplitl [HR]; · iexact HR
  iintro ⟨H2, HR⟩
  iapply (step_run d L X P Tb Wb q hX hP O W t 3 2 (by decide) (4 * t.val + 3) rfl)
  isplitr; · iexact Hmw
  isplitl [H2]; · iexact H2
  isplitl [H3]; · iexact H3
  isplitl [HR]; · iexact HR
  iintro ⟨H2, H3, HR⟩
  rw [wp_pure]
  imodintro
  isplitr; · iexact Hmw
  isplitl [H0]; · iexact H0
  isplitl [H1]; · iexact H1
  isplitl [H2]; · iexact H2
  isplitl [H3]; · iexact H3
  iexact HR

theorem trip_run (hX : ∀ j, (X j).toNat < 1000002) (hP : ∀ j, (P j).toNat < 64) (O : CellTallies nD τ sig (HIx 1)) (W : Waits sig (HIx 1))
    (t : Fin k0_t1_loop.trips) :
    Trips d L X P Tb Wb q O W t.val
      ⊢ wp frame (wpE (defs₀ (F := F)) 𝒱₀ (thr d L) none) Set.univ (do let _ ← earlyProg L t; lateProg L t)
          fun _ => Trips d L X P Tb Wb q O W (t.val + 1) := by
  rw [wp_bind]
  refine (early_run d L X P Tb Wb q hX hP O W t).trans ?_
  refine wp_mono frame _ _ fun a => ?_
  exact late_run d L X P Tb Wb q hX hP O W t

/-! ## The buffers the ring shares out -/

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem mem_slot (p : Fin 4) (y : S4x128x128.Idx) : y ∈ (slotM p).view.set ↔ (y 0).val = p.val := by
  have hset : (slotM p).view.set = (Rect.unit (s := S4x128x128) ![p.val, 0, 0] S1x128x128.size (slot_inb p)).set :=
    (View.set_reshape _ _).trans (View.set_slice_whole _ _)
  rw [hset, Rect.mem_set_unit]
  constructor
  · intro h
    have h0 : p.val ≤ (y 0).val ∧ (y 0).val < p.val + 1 := h 0
    omega
  · intro h a
    match a with
    | 0 => show p.val ≤ (y 0).val ∧ (y 0).val < p.val + 1; omega
    | 1 => have : (y 1).val < 128 := (y 1).isLt; show 0 ≤ (y 1).val ∧ (y 1).val < 0 + 128; omega
    | 2 => have : (y 2).val < 128 := (y 2).isLt; show 0 ≤ (y 2).val ∧ (y 2).val < 0 + 128; omega

omit [FloatOps F] in
theorem slots_disjoint : ∀ p ∈ (Finset.univ : Finset (Fin 4)), ∀ p' ∈ (Finset.univ : Finset (Fin 4)), p ≠ p' →
    Disjoint (show Finset S4x128x128.Idx from (slotM p).view.set) (show Finset S4x128x128.Idx from (slotM p').view.set) := fun p _ p' _ h =>
  Finset.disjoint_left.mpr fun y hy hy' => h (Fin.ext (((mem_slot p y).mp hy).symm.trans ((mem_slot p' y).mp hy')))

omit [FloatOps F] in
theorem slots_cover : (Finset.univ : Finset (Fin 4)).biUnion (fun p => (show Finset S4x128x128.Idx from (slotM p).view.set)) = Finset.univ :=
  Finset.eq_univ_of_forall fun y => Finset.mem_biUnion.mpr ⟨⟨(y 0).val, (y 0).isLt⟩, Finset.mem_univ _, (mem_slot _ y).mpr rfl⟩

omit [FloatOps F] in
theorem slots_split (f : Buf (Elt F) (wbM.view.loc (thr d L))) :
    (wbM.view.loc (thr d L) ↦{fullShare} f : sProp 𝕄) = bigSep Finset.univ fun p : Fin 4 => slotPts d L p f := by
  rw [← slots_cover]
  exact pointsTo_biUnion Finset.univ (ℓ := wbM.view.loc (thr d L)) (fun p : Fin 4 => (show Finset S4x128x128.Idx from (slotM p).view.set)) slots_disjoint

omit [FloatOps F] in
theorem slots_join [∀ e, Nonempty (Elt F e)] : (bigSep Finset.univ fun p : Fin 4 => iprop(∃ b, slotPts d L p b)) ⊢ (iprop(∃ f, wbM.view.loc (thr d L) ↦{fullShare} f) : sProp 𝕄) := by
  have : ∀ _ : Fin 4, Nonempty (Buf (Elt F) (wbM.view.loc (thr d L))) := fun _ => inferInstance
  refine (bigSep_exists_pi Finset.univ (fun p (b : Buf (Elt F) (wbM.view.loc (thr d L))) => slotPts d L p b)).trans ?_
  iintro ⟨%fs, H⟩
  ihave H' := (pointsTo_biUnion_join (ℓ := wbM.view.loc (thr d L)) (q := fullShare) (Val := Elt F) Finset.univ
    (fun p : Fin 4 => (show Finset S4x128x128.Idx from (slotM p).view.set)) fs (fs 0) slots_disjoint) $$ H
  icases H' with ⟨%g, -, Hg⟩
  rw [slots_cover]
  iexists g; iexact Hg

omit [FloatOps F] in
theorem wtS_set : wtS.view.set = Finset.univ := by
  have hset : wtS.view.set = (Rect.unit (s := S1000002x128) ![0, 0] S1000002x128.size inb_S1000002x128_S1000002x128_0_0).set := View.set_slice_whole _ _
  rw [hset]
  refine Finset.eq_univ_of_forall fun y => Rect.mem_set_unit.mpr fun a => ?_
  match a with
  | 0 => have : (y 0).val < 1000002 := (y 0).isLt; exact ⟨Nat.zero_le _, by show (y 0).val < 0 + 1000002; omega⟩
  | 1 => have : (y 1).val < 128 := (y 1).isLt; exact ⟨Nat.zero_le _, by show (y 1).val < 0 + 128; omega⟩

omit [FloatOps F] in
theorem pieces_four (ℓ : Loc nD τ sig) (I : Finset (Idx ℓ)) (hI : I = Finset.univ) (f : Buf (Elt F) ℓ) (q : PosShare TreeShare) :
    (ℓ ↦{q} f : sProp 𝕄) = bigSep Finset.univ fun p : Fin 4 => ℓ ↦[I]{pieceOf q 4 (by decide) p} f := by
  subst hI; exact pointsTo_piecesOf Finset.univ f (by decide) q

omit [FloatOps F] in
/-- The ring at rest is its slots, the task's share of the table, its row numbers and the slots' cells. -/
theorem idle_split : (bigSep Finset.univ fun p : Fin 4 => Idle d L X Tb q p)
    = iprop((bigSep Finset.univ fun p : Fin 4 => iprop(∃ b, slotPts d L p b)) ∗ (wtS.view.loc (thr d L) ↦{q} Tb)
        ∗ (xiM.view.loc (thr d L) ↦{fullShare} blockOf L X) ∗ bigSep Finset.univ fun p : Fin 4 => (semVal (slotCell d L p) 0 : sProp 𝕄)) := by
  unfold Idle
  rw [bigSep_sep', bigSep_sep', bigSep_sep']
  rw [pieces_four (wtS.view.loc (thr d L)) wtS.view.set wtS_set Tb q, pieces_four (xiM.view.loc (thr d L)) Finset.univ rfl (blockOf L X) fullShare]

/-! ## A task's own cells and buffers -/

/-- The semaphores of the initial copies. -/
def loadSem : Fin 3 → DmaSem sig
  | 0 => cc0_scoped0.sem
  | 1 => cc0_scoped1.sem
  | 2 => cc0_scoped2.sem

abbrev loadCell (j : Fin 3) : GSem nD τ sig := (thr d L, .dma (loadSem j))

/-- The semaphores the task uses: a slot's, a slot's copies out, the initial copies'. -/
def semOf : Fin 4 ⊕ Fin 4 ⊕ Fin 3 → SemLoc sig
  | .inl p => .dma (slotSem p)
  | .inr (.inl p) => .dma (outSem p)
  | .inr (.inr j) => .dma (loadSem j)

omit [FloatOps F] in
theorem semOf_inj : Function.Injective semOf := by decide

omit [FloatOps F] in
theorem semOf_scoped : ∀ a, (semOf a).isScoped .scVector = true := by decide

/-- As cells of the task's processor. -/
def cellOf : (Fin 4 ⊕ Fin 4 ⊕ Fin 3) ↪ GSem nD τ sig := ⟨fun a => (thr d L, semOf a), fun _ _ h => semOf_inj (Prod.ext_iff.mp h).2⟩

omit [FloatOps F] in
theorem cells_split :
    (ownSems0 (thr d L) : sProp 𝕄)
      = iprop(((bigSep Finset.univ fun p : Fin 4 => semVal (slotCell d L p) 0) ∗ (bigSep Finset.univ fun p : Fin 4 => semVal (outCell d L p) 0)
          ∗ bigSep Finset.univ fun j : Fin 3 => semVal (loadCell d L j) 0)
        ∗ bigSep (ownCells (thr d L) \ Finset.univ.map (cellOf d L)) fun g => semVal g 0) := by
  have hsub : Finset.univ.map (cellOf d L) ⊆ ownCells (thr d L) := by
    intro g hg
    obtain ⟨a, -, rfl⟩ := Finset.mem_map.mp hg
    exact mem_ownCells.mpr ⟨rfl, semOf_scoped a⟩
  unfold SparseCore.Cfg.ownSems0
  rw [SparseCore.bigSep_sdiff_split' hsub, bigSep_map, bigSep_univ_sum, bigSep_univ_sum]
  rfl

/-- The task's buffers. -/
def bufOf : Fin 5 → Ref sig .scVector
  | 0 => cc0_scratch0
  | 1 => cc0_scratch1
  | 2 => cc0_scratch2
  | 3 => cc0_scratch3
  | 4 => cc0_scratch4

omit [FloatOps F] in
theorem bufOf_inj : Function.Injective bufOf := by decide

def refOf : Fin 5 ↪ DevRef τ sig := ⟨fun a => (Proc.scVector (cV L) (jV L)).devRef (bufOf a), fun _ _ h => bufOf_inj (Proc.devRef_injective _ h)⟩

omit [FloatOps F] in
theorem bufs_split :
    (ownBufs (thr d L) : sProp 𝕄)
      = iprop(((∃ f, xiM.view.loc (thr d L) ↦{fullShare} f) ∗ (∃ f, piPts d L f) ∗ (∃ f, ptPts d L f)
          ∗ (∃ f, wbM.view.loc (thr d L) ↦{fullShare} f) ∗ (∃ f, obPts d L f))
        ∗ bigSep (ownRefs (τ := τ) (.scVector (cV L) (jV L)) \ Finset.univ.map (refOf L)) fun b => iprop(∃ f, ((d, b) : Loc nD τ sig) ↦{fullShare} f)) := by
  have hsub : Finset.univ.map (refOf L) ⊆ ownRefs (τ := τ) (.scVector (cV L) (jV L)) := by
    intro b hb
    obtain ⟨a, -, rfl⟩ := Finset.mem_map.mp hb
    refine SparseCore.Cfg.mem_ownRefs_of_owner (p := Proc.scVector (cV L) (jV L)) ?_
    clear hb
    match a with | 0 => rfl | 1 => rfl | 2 => rfl | 3 => rfl | 4 => rfl
  unfold SparseCore.Cfg.ownBufs
  rw [SparseCore.bigSep_sdiff_split' hsub, bigSep_map, bigSep_univ_eq_bigSepL [0, 1, 2, 3, 4] (by decide) (by decide)]
  rfl

/-! ## The copies in -/

/-- Where the task's block starts. -/
theorem base_eq : k0_off1 L 0 = baseN L := by
  have h : ∀ c s, k0_off1 (fun | 0 => c | 1 => s) 0 = 12800 * s.val + 6400 * c.val := by decide +kernel
  have hL : (fun | 0 => L 0 | 1 => L 1 : grid0.Coords) = L := funext fun a => match a with | 0 => rfl | 1 => rfl
  have := h (L 0) (L 1)
  rw [hL] at this
  exact this

omit [FloatOps F] in
/-- The block the task copies of a flat array of row numbers is its own. -/
theorem block_read (Y : S204800.Idx → BitVec 32) :
    (fun x : S6400.Idx => Y ((blockS L xsM).view.emb x)) = blockOf L Y := by
  funext x
  refine congrArg Y (funext fun a => Fin.ext ?_)
  match a with
  | 0 => show k0_off1 L 0 + 1 * (x 0).val = baseN L + (x 0).val; rw [base_eq]; omega

/-- The initial copies, and what follows them. -/
def loadThen {α : Type} (k : Prog (TpuEff nD τ sig (Elt F) Λ₀ (.scVector ((L 0).castLE hcore0) ((L 1).castLE hsub0))) α) :
    Prog (TpuEff nD τ sig (Elt F) Λ₀ (.scVector ((L 0).castLE hcore0) ((L 1).castLE hsub0))) α := do
  Prog.lift (.enqueueDma (blockS L xsM) (.here xiM) (.dma cc0_scoped0.sem) (View.wordExact_bits rfl) (Memref.isWhole_whole _).wordExact ⟨Or.inl rfl, trivial⟩)
  Prog.lift (.waitDma2 cc0_scoped0.sem (blockS L xsM) xiM (View.wordExact_bits rfl) (Memref.isWhole_whole _).wordExact)
  Prog.lift (.enqueueDma (blockS L psM) (.here piM) (.dma cc0_scoped1.sem) (View.wordExact_bits rfl) (Memref.isWhole_whole _).wordExact ⟨Or.inl rfl, trivial⟩)
  Prog.lift (.waitDma2 cc0_scoped1.sem (blockS L psM) piM (View.wordExact_bits rfl) (Memref.isWhole_whole _).wordExact)
  Prog.lift (.enqueueDma pwM (.here ptM) (.dma cc0_scoped2.sem) (Memref.isWhole_whole _).wordExact (Memref.isWhole_whole _).wordExact ⟨Or.inl rfl, trivial⟩)
  Prog.lift (.waitDma2 cc0_scoped2.sem pwM ptM (Memref.isWhole_whole _).wordExact (Memref.isWhole_whole _).wordExact)
  k

/-- The fetches that start the ring, and its trips. -/
def ringProg : Prog (TpuEff nD τ sig (Elt F) Λ₀ (.scVector ((L 0).castLE hcore0) ((L 1).castLE hsub0))) PUnit := do
  fetchProg L 0 ![0] (head_inb 0)
  fetchProg L 1 ![128] (head_inb 1)
  fetchProg L 2 ![256] (head_inb 2)
  Scf.Loop.for k0_t1_loop steps_ok ⟨⟩ fun t _ => do
    let _ ← earlyProg L t
    lateProg L t
  pure ⟨⟩

theorem lookupProg_eq : lookupProg (F := F) L = loadThen L (ringProg L) := rfl

theorem load_run {α : Type} (O : CellTallies nD τ sig (HIx 1)) (W : Waits sig (HIx 1))
    (k : Prog (TpuEff nD τ sig (Elt F) Λ₀ (.scVector ((L 0).castLE hcore0) ((L 1).castLE hsub0))) α) {Q : α → sProp 𝕄} :
    iprop(Transfers.MayWaits (thr d L) (default : HIx 1) O ∗ (xsLoc d ↦{q} X) ∗ (psLoc d ↦{q} P) ∗ (pwLoc d ↦{q} Wb)
        ∗ (∃ f, xiM.view.loc (thr d L) ↦{fullShare} f) ∗ (∃ f, piPts d L f) ∗ (∃ f, ptPts d L f)
        ∗ (bigSep Finset.univ fun j : Fin 3 => semVal (loadCell d L j) 0) ∗ owes (thr d L) O W
        ∗ (((xsLoc d ↦{q} X) ∗ (psLoc d ↦{q} P) ∗ (pwLoc d ↦{q} Wb)
            ∗ (xiM.view.loc (thr d L) ↦{fullShare} blockOf L X) ∗ piPts d L (blockOf L P) ∗ ptPts d L Wb
            ∗ (bigSep Finset.univ fun j : Fin 3 => semVal (loadCell d L j) 0) ∗ ∃ W', ⌜∀ x ∈ W', x ∈ W ∨ x.2 = none⌝ ∗ owes (thr d L) O W')
          -∗ wp frame (wpE (defs₀ (F := F)) 𝒱₀ (thr d L) none) Set.univ k Q))
      ⊢ wp frame (wpE (defs₀ (F := F)) 𝒱₀ (thr d L) none) Set.univ (loadThen L k) Q := by
  unfold loadThen
  rw [bigSep_three]
  iintro ⟨#Hmw, Hx, Hp, Hw, ⟨%f0, Hxi⟩, ⟨%f1, Hpi⟩, ⟨%f2, Hpt⟩, ⟨Hs0, Hs1, Hs2⟩, HO, Hk⟩
  ihave Hx' := (pointsTo_split_subset (q := q) (ℓ := xsLoc d) (f := X) (S := Finset.univ) (Finset.subset_univ (blockS L xsM).view.set)).1 $$ Hx
  icases Hx' with ⟨Hx, Hxr⟩
  ihave Hp' := (pointsTo_split_subset (q := q) (ℓ := psLoc d) (f := P) (S := Finset.univ) (Finset.subset_univ (blockS L psM).view.set)).1 $$ Hp
  icases Hp' with ⟨Hp, Hpr⟩
  ihave Hx' := (show (xsLoc d ↦[(blockS L xsM).view.set]{q} X : sProp 𝕄) ⊢ (blockS L xsM).view.loc (thr d L) ↦[(blockS L xsM).view.set]{q} X from .rfl) $$ Hx
  ihave Hp' := (show (psLoc d ↦[(blockS L psM).view.set]{q} P : sProp 𝕄) ⊢ (blockS L psM).view.loc (thr d L) ↦[(blockS L psM).view.set]{q} P from .rfl) $$ Hp
  ihave Hw' := (show (pwLoc d ↦{q} Wb : sProp 𝕄) ⊢ pwM.view.loc (thr d L) ↦{q} Wb from .rfl) $$ Hw
  sl_exec
  have hxi : View.write (Elt F) xiM.view f0 (load_run.sl.dma0 L X) Finset.univ = blockOf L X := (View.write_whole_univ _ _ _).trans (block_read L X)
  have hpi : View.write (Elt F) piM.view f1 (load_run.sl.dma0_1 L P) Finset.univ = blockOf L P := (View.write_whole_univ _ _ _).trans (block_read L P)
  have hpt : View.write (Elt F) ptM.view f2 (load_run.sl.dma0_2 Wb) Finset.univ = Wb := View.write_whole_univ _ _ _
  rw [hxi, hpi, hpt]
  iapply Hk
  isplitl [Hxr]; · iexact Hxr
  isplitl [Hpr]; · iexact Hpr
  isplitl [Hw']; · iexact Hw'
  isplitl [Hxi]; · iexact Hxi
  isplitl [Hpi]; · iexact Hpi
  isplitl [Hpt]; · iexact Hpt
  isplitl [Hs0 Hs1 Hs2]
  · isplitl [Hs0]; · iexact Hs0
    isplitl [Hs1]; · iexact Hs1
    iexact Hs2
  iexists _
  isplitr
  swap; · iexact HO
  ipureintro
  intro x hx
  rcases Finset.mem_insert.mp hx with hx | hx; · exact .inr (hx ▸ rfl)
  rcases Finset.mem_insert.mp hx with hx | hx; · exact .inr (hx ▸ rfl)
  rcases Finset.mem_insert.mp hx with hx | hx; · exact .inr (hx ▸ rfl)
  exact .inl hx

/-! ## The ring from rest to rest -/

theorem slot_of_fly (p : Fin 4) (g : Fin 50) : Fly d L X P Tb Wb q p g ⊢ Slot d L X P Tb Wb q p g.val := by
  unfold Slot
  rw [dif_pos g.isLt]

set_option maxRecDepth 20000 in
theorem ring_run (hX : ∀ j, (X j).toNat < 1000002) (hP : ∀ j, (P j).toNat < 64) (O : CellTallies nD τ sig (HIx 1)) (W : Waits sig (HIx 1)) :
    iprop(Transfers.MayWaits (thr d L) (default : HIx 1) O ∗ (bigSep Finset.univ fun p : Fin 4 => Idle d L X Tb q p) ∗ Rest d L X P Tb Wb O W 0)
      ⊢ wp frame (wpE (defs₀ (F := F)) 𝒱₀ (thr d L) none) Set.univ (ringProg L)
          fun _ => iprop((bigSep Finset.univ fun p : Fin 4 => Idle d L X Tb q p) ∗ Rest d L X P Tb Wb O W 52) := by
  unfold ringProg
  rw [bigSep_four]
  iintro ⟨#Hmw, ⟨H0, H1, H2, H3⟩, HR⟩
  iapply (fetch_run d L X P Tb Wb q hX 0 0 _ _ rfl _)
  isplitl [H0]; · iexact H0
  iintro H0
  iapply (fetch_run d L X P Tb Wb q hX 1 1 _ _ rfl _)
  isplitl [H1]; · iexact H1
  iintro H1
  iapply (fetch_run d L X P Tb Wb q hX 2 2 _ _ rfl _)
  isplitl [H2]; · iexact H2
  iintro H2
  rw [wp_bind]
  iapply (Scf.wp_for _ _ _ _ _ _ steps_ok _ _ (fun t _ => Trips d L X P Tb Wb q O W t) (fun t _ => trip_run d L X P Tb Wb q hX hP O W t))
  isplitl [H0 H1 H2 H3 HR]
  · unfold Trips
    isplitr; · iexact Hmw
    isplitl [H0]; · iapply (slot_of_fly d L X P Tb Wb q 0 0); iexact H0
    isplitl [H1]; · iapply (slot_of_fly d L X P Tb Wb q 1 1); iexact H1
    isplitl [H2]; · iapply (slot_of_fly d L X P Tb Wb q 2 2); iexact H2
    isplitl [H3]; · iexact H3
    iexact HR
  iintro %_ H
  rw [show Scf.trips k0_t1_loop.lb k0_t1_loop.ub k0_t1_loop.st = 13 from by decide]
  unfold Trips Slot
  rw [dif_neg (by decide), dif_neg (by decide), dif_neg (by decide)]
  icases H with ⟨-, H0, H1, H2, H3, HR⟩
  rw [wp_pure]
  imodintro
  isplitr [HR]
  · isplitl [H0]; · iexact H0
    isplitl [H1]; · iexact H1
    isplitl [H2]; · iexact H2
    iexact H3
  iexact HR

/-! ## The task -/

/-- What a task is handed: shares of the flat arrays of row numbers and of the tables, and its rows of the result. -/
def Go : sProp 𝕄 :=
  iprop((xsLoc d ↦{q} X) ∗ (psLoc d ↦{q} P) ∗ (pwLoc d ↦{q} Wb) ∗ (wtLoc d ↦{q} Tb) ∗ ∃ f, outLoc d ↦[outSet L]{fullShare} f)

/-- What it hands back: its rows hold what the call is to leave. -/
def Td : sProp 𝕄 :=
  iprop((xsLoc d ↦{q} X) ∗ (psLoc d ↦{q} P) ∗ (pwLoc d ↦{q} Wb) ∗ (wtLoc d ↦{q} Tb) ∗ outLoc d ↦[outSet L]{fullShare} OUT X P Tb Wb)

theorem tile_body [∀ e, Nonempty (Elt F e)] (hF : (K (F := F)).Facts) (hX : ∀ j, (X j).toNat < 1000002) (hP : ∀ j, (P j).toNat < 64)
    (O : CellTallies nD τ sig (HIx 1)) (W : Waits sig (HIx 1)) (hO : ∀ g, O g none = 0) :
    iprop(levAts (K (F := F)).L (K (F := F)).lev ∗ emp ∗ Go d L X P Tb Wb q ∗ scopedBufs (thr d L) ∗ scopedSems0 (thr d L) ∗ owes (thr d L) O W)
      ⊢ wp frame (wpE (defs₀ (F := F)) 𝒱₀ (thr d L) none) Set.univ (lookupProg L)
          fun _ => iprop(Td d L X P Tb Wb q ∗ scopedBufs (thr d L) ∗ scopedSems0 (thr d L)
            ∗ ∃ W', ⌜∀ p ∈ W', p ∈ W ∨ p.2 = none⌝ ∗ owes (thr d L) O W') := by
  rw [lookupProg_eq, (K (F := F)).scopedBufs_V hF d (cV L) (jV L), SparseCore.Cfg.scopedSems0_V (Val := Elt F) d (cV L) (jV L), cells_split, bufs_split]
  unfold Go Td
  iintro ⟨#Hlv, -, ⟨Hx, Hp, Hw, Ht, %f, Ho⟩, ⟨⟨Hxi, Hpi, Hpt, ⟨%wb, Hwb⟩, Hob⟩, Hbufs⟩, ⟨⟨Hss, Hos, Hls⟩, Hsems⟩, HO⟩
  ihave #Hmw := (show levAts (K (F := F)).L (K (F := F)).lev ⊢ Transfers.MayWaits (thr d L) (default : HIx 1) O from
    (K (F := F)).mayWaits_none (thr := thr d L) hO) $$ Hlv
  iapply (load_run d L X P Wb q O W _)
  isplitr; · iexact Hmw
  isplitl [Hx]; · iexact Hx
  isplitl [Hp]; · iexact Hp
  isplitl [Hw]; · iexact Hw
  isplitl [Hxi]; · iexact Hxi
  isplitl [Hpi]; · iexact Hpi
  isplitl [Hpt]; · iexact Hpt
  isplitl [Hls]; · iexact Hls
  isplitl [HO]; · iexact HO
  iintro ⟨Hx, Hp, Hw, Hxi, Hpi, Hpt, Hls, %W1, %hW1, HO⟩
  iapply (wp_wand_r _ _ _)
  isplitl [Hwb Ht Hxi Hss Ho Hpi Hpt Hob Hos HO]
  · iapply (ring_run d L X P Tb Wb q hX hP O W1)
    isplitr; · iexact Hmw
    isplitl [Hwb Ht Hxi Hss]
    · rw [idle_split]
      isplitl [Hwb]
      · ihave H := (Entails.of_eq (slots_split d L wb)) $$ Hwb
        have hm : (bigSep Finset.univ fun p : Fin 4 => slotPts d L p wb) ⊢ (bigSep Finset.univ fun p : Fin 4 => iprop(∃ b, slotPts d L p b) : sProp 𝕄) :=
          bigSep_mono fun p _ => exists_intro (Φ := fun b => slotPts d L p b) wb
        iapply hm; iexact H
      isplitl [Ht]; · iexact Ht
      isplitl [Hxi]; · iexact Hxi
      iexact Hss
    unfold Rest OutSt
    isplitl [Ho]
    · iexists f
      isplitr
      · ipureintro; intro y hy hlt; have := (Finset.mem_filter.mp hy).2; omega
      iexact Ho
    isplitl [Hpi]; · iexact Hpi
    isplitl [Hpt]; · iexact Hpt
    isplitl [Hob]; · iexact Hob
    isplitl [Hos]; · iexact Hos
    iexists W1
    isplitr; · ipureintro; exact fun x hx => .inl hx
    iexact HO
  iintro %_ ⟨HI, HR⟩
  unfold Rest OutSt
  ihave HI' := (Entails.of_eq (idle_split d L X Tb q)) $$ HI
  icases HI' with ⟨Hwb, Ht, Hxi, Hss⟩
  icases HR with ⟨⟨%fo, %hfo, Ho⟩, Hpi, Hpt, Hob, Hos, %W2, %hW2, HO⟩
  ihave Hwb' := (slots_join d L) $$ Hwb
  ihave Ho' := (Entails.of_eq (pointsTo_congr (q := fullShare) (ℓ := outLoc d) (I := outSet L) (f := fo) (g := OUT X P Tb Wb)
    (fun y hy => hfo y hy (by have := (Finset.mem_filter.mp hy).2; omega)))) $$ Ho
  isplitl [Hx Hp Hw Ht Ho']
  · isplitl [Hx]; · iexact Hx
    isplitl [Hp]; · iexact Hp
    isplitl [Hw]; · iexact Hw
    isplitl [Ht]; · iexact Ht
    iexact Ho'
  isplitl [Hwb' Hxi Hpi Hpt Hob Hbufs]
  · isplitr [Hbufs]
    · isplitl [Hxi]; · iexists _; iexact Hxi
      isplitl [Hpi]; · iexists _; iexact Hpi
      isplitl [Hpt]; · iexists _; iexact Hpt
      isplitl [Hwb']; · iexact Hwb'
      iexact Hob
    iexact Hbufs
  isplitl [Hss Hos Hls Hsems]
  · isplitr [Hsems]
    · isplitl [Hss]; · iexact Hss
      isplitl [Hos]; · iexact Hos
      iexact Hls
    iexact Hsems
  iexists W2
  isplitr
  swap; · iexact HO
  ipureintro
  intro p hp
  rcases hW2 p hp with h | h
  · exact hW1 p h
  · exact .inr h

end

end Cert.Proof.Lookup
-- ==== Proof.Launch.lean ====
/-
  The call as a launch: how the arrays are shared among the tasks, @main around the call, and the program's run.
-/
module

public import proofs.«01_k».proof.Proof.Tile
public import Idealize.ShloMosaic.Lib.Pipeline.Frame

@[expose] public section

noncomputable section

namespace Cert.Proof.Lookup

open Cert.KernelIdeal Cert.KernelIdeal.Gen
open Idealize.ShloMosaic
open Idealize.ShloMosaic.SparseCore (S V T)
open Idealize.ShloMosaic.SparseCore.Cfg (HIx Pay)
open Idealize.ShloMosaic.Pipeline (ucRefs sub_ucRefs unscopedBufs_held)
open Idealize.ShloMosaic.StableHlo (held seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The grid's tasks -/

/-- The grid point of a task of a SparseCore. -/
def coordsOf (c : Fin (grid0.bound 0)) (s : Fin (grid0.bound 1)) : grid0.Coords
  | 0 => c
  | 1 => s
  | ⟨_ + 2, h⟩ => absurd h (Nat.not_lt.2 (Nat.le_add_left _ _))

abbrev CoreIx : Type := Fin ((K (F := F)).nCore 0)
abbrev SubIx : Type := Fin ((K (F := F)).nSub 0)

abbrev taskOf (c : CoreIx (F := F)) (i : SubIx (F := F)) : grid0.Coords := coordsOf c i

/-- A task's share of an array all of them read. -/
def taskShare (c : CoreIx (F := F)) (i : SubIx (F := F)) : PosShare TreeShare :=
  pieceOf (pieceOf fullShare ((K (F := F)).nCore 0) (show 0 < 2 by decide) c) ((K (F := F)).nSub 0) (show 0 < 16 by decide) i

theorem shares_split (ℓ : Loc nD τ sig) (f : Buf (Elt F) ℓ) :
    (ℓ ↦{fullShare} f : sProp 𝕄) = bigSep Finset.univ fun c : CoreIx (F := F) => bigSep Finset.univ fun i : SubIx (F := F) => ℓ ↦{taskShare c i} f := by
  rw [pointsTo_piecesOf Finset.univ f (show 0 < (K (F := F)).nCore 0 from show 0 < 2 by decide) fullShare]
  exact bigSep_congr fun c _ => pointsTo_piecesOf Finset.univ f _ _

theorem mem_outSet (c : CoreIx (F := F)) (i : SubIx (F := F)) (y : S204800x80.Idx) :
    y ∈ outSet (taskOf c i) ↔ 12800 * i.val + 6400 * c.val ≤ (y 0).val ∧ (y 0).val < 12800 * i.val + 6400 * c.val + 6400 :=
  Finset.mem_filter.trans (and_iff_right (Finset.mem_univ y))

/-- The rows a SparseCore's tasks write. -/
def coreSet (c : CoreIx (F := F)) : Finset S204800x80.Idx := (Finset.univ : Finset (SubIx (F := F))).biUnion fun i => outSet (taskOf c i)

theorem mem_coreSet (c : CoreIx (F := F)) (y : S204800x80.Idx) : y ∈ coreSet c ↔ (y 0).val / 6400 % 2 = c.val := by
  have hc : c.val < 2 := c.isLt
  have hy : (y 0).val < 204800 := (y 0).isLt
  unfold coreSet
  rw [Finset.mem_biUnion]
  constructor
  · rintro ⟨i, -, h⟩
    have := (mem_outSet c i y).mp h
    omega
  · intro h
    exact ⟨⟨(y 0).val / 12800, show _ < 16 by omega⟩, Finset.mem_univ _, (mem_outSet c _ y).mpr (by dsimp only; omega)⟩

theorem cores_cover : (Finset.univ : Finset (CoreIx (F := F))).biUnion coreSet = Finset.univ :=
  Finset.eq_univ_of_forall fun y => Finset.mem_biUnion.mpr ⟨⟨(y 0).val / 6400 % 2, show _ < 2 from Nat.mod_lt _ (by decide)⟩, Finset.mem_univ _, (mem_coreSet _ y).mpr rfl⟩

theorem cores_disjoint : ∀ c ∈ (Finset.univ : Finset (CoreIx (F := F))), ∀ c' ∈ (Finset.univ : Finset (CoreIx (F := F))), c ≠ c' →
    Disjoint (coreSet c) (coreSet c') := fun c _ c' _ h =>
  Finset.disjoint_left.mpr fun y hy hy' => h (Fin.ext (((mem_coreSet c y).mp hy).symm.trans ((mem_coreSet c' y).mp hy')))

theorem tasks_disjoint (c : CoreIx (F := F)) : ∀ i ∈ (Finset.univ : Finset (SubIx (F := F))), ∀ i' ∈ (Finset.univ : Finset (SubIx (F := F))), i ≠ i' →
    Disjoint (outSet (taskOf c i)) (outSet (taskOf c i')) := fun i _ i' _ h =>
  Finset.disjoint_left.mpr fun y hy hy' => h (Fin.ext (by
    have h1 := (mem_outSet c i y).mp hy
    have h2 := (mem_outSet c i' y).mp hy'
    omega))

theorem rows_split (d : Dev nD) (f : S204800x80.Idx → F .f32) :
    (outLoc d ↦{fullShare} f : sProp 𝕄)
      = bigSep Finset.univ fun c : CoreIx (F := F) => bigSep Finset.univ fun i : SubIx (F := F) => outLoc d ↦[outSet (taskOf c i)]{fullShare} f := by
  rw [show (outLoc d ↦{fullShare} f : sProp 𝕄) = outLoc d ↦[(Finset.univ : Finset (CoreIx (F := F))).biUnion coreSet]{fullShare} f by rw [cores_cover]]
  refine (pointsTo_biUnion Finset.univ (ℓ := outLoc d) coreSet cores_disjoint).trans (bigSep_congr fun c _ => ?_)
  exact pointsTo_biUnion Finset.univ (ℓ := outLoc d) (fun i : SubIx (F := F) => outSet (taskOf c i)) (tasks_disjoint c)

/-! ## @main's lines -/

section Main
variable [FloatOps F] (m : (ℓ : Loc nD τ sig) → Buf (Elt F) ℓ) (ρ : Dev nD → PrngReg)

/-- The operations before the call, -/
def preOps : List (HloOp τ sig (Elt F)) :=
  [StableHlo.unary main_arg2 main_v0 ((transpose S64x1000002 [1, 0] · transposes_S1000002x64_S64x1000002_1_0) : (⟨S1000002x64, .f32⟩ : BufTy).Contents (Elt F) → (⟨S64x1000002, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v0 : StableHlo.TRef sig ⟨S64x1000002, .f32⟩) main_call0.v0 main_call0.v1 (fun x v => pad S128x1000002 ![0, 0] ![64, 0] ![0, 0] x v pads_S64x1000002_S128x1000002_0640_000 h_S_),
    StableHlo.unary main_v1 main_v2 ((transpose S1000002x128 [1, 0] · transposes_S128x1000002_S1000002x128_1_0) : (⟨S128x1000002, .f32⟩ : BufTy).Contents (Elt F) → (⟨S1000002x128, .f32⟩ : BufTy).Contents (Elt F)),
    StableHlo.reshape main_arg0 main_v3 (rfl : (.i32 : EltTy) = .i32) shapeCasts_S1024x200_S204800,
    StableHlo.reshape main_arg1 main_v4 (rfl : (.i32 : EltTy) = .i32) shapeCasts_S1024x200_S204800]

/-- and the one after it. -/
def postOps : List (HloOp τ sig (Elt F)) :=
  [StableHlo.reshape main_v5 main_v6 (rfl : (.f32 : EltTy) = .f32) shapeCasts_S204800x80_S1024x200x80]

theorem main_eq (d : Dev nD) : main (F := F) d = (seq preOps >>= fun _ => sc.run d 0 >>= fun _ => seq postOps >>= fun _ => pure ⟨⟩) := by
  rfl

/-- What the buffers hold at the call, -/
def V1 (d : Dev nD) : Valuation τ sig (Elt F) := after preOps fun b => m (d, b)

/-- the operands among them, -/
def Xv (d : Dev nD) : S204800.Idx → BitVec 32 := V1 m d (Proc.devRef .tc main_v3)
def Pv (d : Dev nD) : S204800.Idx → BitVec 32 := V1 m d (Proc.devRef .tc main_v4)
def Tv (d : Dev nD) : S1000002x128.Idx → F .f32 := V1 m d (Proc.devRef .tc main_v2)
def Wv (d : Dev nD) : S64x16.Idx → F .f32 := V1 m d (Proc.devRef .tc main_arg3)

/-- after it, -/
def V2 (d : Dev nD) : Valuation τ sig (Elt F) :=
  Function.update (V1 m d) (Proc.devRef .tc main_v5) (OUT (Xv m d) (Pv m d) (Tv m d) (Wv m d) : S204800x80.Idx → F .f32)

/-- and at the end. -/
def V3 (d : Dev nD) : Valuation τ sig (Elt F) := after postOps (V2 m d)

/-! ## The operands out of the buffers @main holds -/

def argOf : Fin 5 → Ref sig .tc
  | 0 => main_v3
  | 1 => main_v4
  | 2 => main_arg3
  | 3 => main_v2
  | 4 => main_v5

omit [FloatOps F] in
theorem argOf_inj : Function.Injective argOf := by decide

def argRef : Fin 5 ↪ DevRef τ sig := ⟨fun a => Proc.devRef .tc (argOf a), fun _ _ h => argOf_inj (Proc.devRef_injective _ h)⟩

omit [FloatOps F] in
theorem argRef_sub : Finset.univ.map argRef ⊆ ucRefs τ sig := by
  intro b hb
  obtain ⟨a, -, rfl⟩ := Finset.mem_map.mp hb
  refine Finset.mem_filter.mpr ⟨StableHlo.devRef_mem_tcRefs _, ?_⟩
  clear hb
  match a with | 0 => decide | 1 => decide | 2 => decide | 3 => decide | 4 => decide

/-- The call's operands and its result, whole. -/
def Whole (d : Dev nD) (X P : S204800.Idx → BitVec 32) (Wb : S64x16.Idx → F .f32) (Tb : S1000002x128.Idx → F .f32) (f : S204800x80.Idx → F .f32) : sProp 𝕄 :=
  iprop((xsLoc d ↦{fullShare} X) ∗ (psLoc d ↦{fullShare} P) ∗ (pwLoc d ↦{fullShare} Wb) ∗ (wtLoc d ↦{fullShare} Tb) ∗ outLoc d ↦{fullShare} f)

omit [FloatOps F] in
theorem held_args (d : Dev nD) (Vl : Valuation τ sig (Elt F)) :
    (held (T d) (ucRefs τ sig) Vl : sProp 𝕄)
      = iprop(Whole d (Vl (Proc.devRef .tc main_v3)) (Vl (Proc.devRef .tc main_v4)) (Vl (Proc.devRef .tc main_arg3)) (Vl (Proc.devRef .tc main_v2)) (Vl (Proc.devRef .tc main_v5))
        ∗ held (T d) (ucRefs τ sig \ Finset.univ.map argRef) Vl) := by
  rw [StableHlo.held_sub_split (T d) argRef_sub]
  congr 1
  unfold held Whole
  rw [bigSep_map, bigSep_univ_eq_bigSepL [0, 1, 2, 3, 4] (by decide) (by decide)]
  rfl

/-! ## What the handshakes carry -/

def goT (d : Dev nD) (c : CoreIx (F := F)) (i : SubIx (F := F)) : sProp 𝕄 :=
  Go d (taskOf c i) (Xv m d) (Pv m d) (Tv m d) (Wv m d) (taskShare c i)
def tdT (d : Dev nD) (c : CoreIx (F := F)) (i : SubIx (F := F)) : sProp 𝕄 :=
  Td d (taskOf c i) (Xv m d) (Pv m d) (Tv m d) (Wv m d) (taskShare c i)

instance goT_storable (d : Dev nD) (c : CoreIx (F := F)) (i : SubIx (F := F)) : BI.Storable (upEmb : UEmb _ 𝕄) (goT m d c i) := by
  unfold goT Go; infer_instance
instance tdT_storable (d : Dev nD) (c : CoreIx (F := F)) (i : SubIx (F := F)) : BI.Storable (upEmb : UEmb _ 𝕄) (tdT m d c i) := by
  unfold tdT Td; infer_instance

/-- The call takes what its tasks take, and brings back what they bring back. -/
def Pd : (K (F := F)).Pay (nD := nD) (Val := Elt F) (Name := ℕ) (U := UU) where
  st := fun q d c => match q, c with | 0, c => bigSep Finset.univ fun i : SubIx (F := F) => goT m d c i
  dn := fun q d c => match q, c with | 0, c => bigSep Finset.univ fun i : SubIx (F := F) => tdT m d c i
  go := fun q d c i => match q, c, i with | 0, c, i => goT m d c i
  td := fun q d c i => match q, c, i with | 0, c, i => tdT m d c i
  x := fun _ _ => iprop(emp)

instance Pd_storable : (Pd (F := F) m).IsStorable where
  st q d c := match q, c with
    | 0, c => (inferInstance : BI.Storable (upEmb : UEmb _ 𝕄) (bigSep Finset.univ fun i : SubIx (F := F) => goT m d c i))
  dn q d c := match q, c with
    | 0, c => (inferInstance : BI.Storable (upEmb : UEmb _ 𝕄) (bigSep Finset.univ fun i : SubIx (F := F) => tdT m d c i))
  go q d c i := match q, c, i with | 0, c, i => goT_storable m d c i
  td q d c i := match q, c, i with | 0, c, i => tdT_storable m d c i

theorem vecSplit : (K (F := F)).VecSplit' (Pd m) 0 := by
  intro d c
  show (bigSep Finset.univ fun i : SubIx (F := F) => goT m d c i) ⊢ |={Set.univ}=> iprop((bigSep Finset.univ fun i : SubIx (F := F) => goT m d c i)
      ∗ ((bigSep Finset.univ fun i : SubIx (F := F) => tdT m d c i) -∗ bigSep Finset.univ fun i : SubIx (F := F) => tdT m d c i))
  iintro H; imodintro
  isplitl [H]; · iexact H
  iintro H; iexact H

theorem st_intro (d : Dev nD) :
    Whole d (Xv m d) (Pv m d) (Wv m d) (Tv m d) (V1 m d (Proc.devRef .tc main_v5)) ⊢ (bigSep Finset.univ fun c : CoreIx (F := F) => (Pd m).st 0 d c : sProp 𝕄) := by
  unfold Whole
  rw [shares_split, shares_split, shares_split, shares_split, rows_split]
  simp only [← bigSep_sep']
  refine bigSep_mono fun c _ => bigSep_mono fun i _ => ?_
  unfold goT Go
  exact sep_mono_right (sep_mono_right (sep_mono_right (sep_mono_right (exists_intro (Φ := fun f => outLoc d ↦[outSet (taskOf c i)]{fullShare} f) _))))

theorem dn_elim (d : Dev nD) :
    (bigSep Finset.univ fun c : CoreIx (F := F) => (Pd m).dn 0 d c : sProp 𝕄) ⊢ Whole d (Xv m d) (Pv m d) (Wv m d) (Tv m d) (OUT (Xv m d) (Pv m d) (Tv m d) (Wv m d)) := by
  unfold Whole
  rw [shares_split, shares_split, shares_split, shares_split, rows_split]
  simp only [← bigSep_sep']
  exact .rfl

/-! ## A task, from the handshake to its body -/

/-- What the run asks of the launch memory: the numbers the gathers and the copy loop read name rows of their tables. -/
def PreOK : Prop := ∀ d, (∀ j, (Xv m d j).toNat < 1000002) ∧ ∀ j, (Pv m d j).toNat < 64

omit m ρ in
theorem defs₀_vector (c : Fin τ.nSC) (s : Fin τ.nSub) :
    defs₀ (F := F) (.scVector c s) 0 () = SparseCore.onTile hcore0 hsub0 (fun c s => lookupProg (coordsOf c s)) ⟨⟩ c s := by
  refine Eq.trans ?_ (congrArg (fun b => SparseCore.onTile hcore0 hsub0 b ⟨⟩ c s) (funext fun c => funext fun s => lookup_eq (F := F) (i := coordsOf c s)))
  rfl

omit [FloatOps F] m ρ in
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  refine sep_mono_right (sep_mono_right (sep_mono_right ?_))
  iintro ⟨%W', %h, HO⟩
  iexists W'
  isplitr; · ipureintro; exact fun p hp => (h p hp).imp_right Or.inl
  iexact HO

set_option maxRecDepth 16384 in
theorem tileObl [∀ e, Nonempty (Elt F e)] (hpre : PreOK m) : (K (F := F)).TileObl (D (F := F)) 𝒱 (Pd m) v₀ 0 := by
  intro d c i O W hO _ _
  simp only [show (Pd m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (taskOf c i) (Xv m d) (Pv m d) (Tv m d) (Wv m d) (taskShare c i) facts (hpre d).1 (hpre d).2 O W hO).trans
    (wp_mono frame _ _ fun _ => waits_weaken)

/-! ## The launch -/

/-- The ghost state the handshakes start from. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (Pd m).x q t) := by
  rw [show (bigSep Finset.univ fun t : Thread nD τ => bigSep Finset.univ fun q : Fin 1 => (Pd (F := F) m).x q t) = (iprop(emp) : sProp 𝕄) from
      (bigSep_congr fun _ _ => bigSep_univ_of_subsingleton (0 : Fin 1)).trans (bigSep_emp_const _),
    show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-- What @main's thread ends with: its buffers. -/
def FIN (d : Dev nD) : sProp 𝕄 := held (T d) (ucRefs τ sig) (V3 m d)

theorem held_call (d : Dev nD) :
    (held (T d) (ucRefs τ sig) (V2 m d) : sProp 𝕄)
      = iprop(Whole d (Xv m d) (Pv m d) (Wv m d) (Tv m d) (OUT (Xv m d) (Pv m d) (Tv m d) (Wv m d))
        ∗ held (T d) (ucRefs τ sig \ Finset.univ.map argRef) (V1 m d)) := by
  have hne {r : Ref sig .tc} (h : r ≠ main_v5) : V2 m d (Proc.devRef .tc r) = V1 m d (Proc.devRef .tc r) :=
    Function.update_of_ne (fun h' => h (Proc.devRef_injective _ h')) _ _
  rw [held_args, hne (r := main_v3) (by decide), hne (r := main_v4) (by decide), hne (r := main_arg3) (by decide), hne (r := main_v2) (by decide)]
  rw [show V2 m d (Proc.devRef .tc main_v5) = OUT (Xv m d) (Pv m d) (Tv m d) (Wv m d) from Function.update_self _ _ _,
    show (held (T d) (ucRefs τ sig \ Finset.univ.map argRef) (V2 m d) : sProp 𝕄) = held (T d) (ucRefs τ sig \ Finset.univ.map argRef) (V1 m d) from
      StableHlo.held_congr _ fun b hb => Function.update_of_ne (fun h => (Finset.mem_sdiff.mp hb).2 (Finset.mem_map.mpr ⟨4, Finset.mem_univ _, h.symm⟩)) _ _]
  rfl

omit m ρ in
theorem preOps_within : ∀ op ∈ preOps (F := F), op.bufs ⊆ ucRefs τ sig := fun op h =>
  sub_ucRefs op (List.forall_iff_forall_mem.mp
    (show (preOps (F := F)).Forall fun op => op.bufs ⊆ StableHlo.tcRefs τ sig from ⟨StableHlo.unary_bufs_sub .., StableHlo.nullary_bufs_sub .., StableHlo.unary_bufs_sub .., StableHlo.binary_bufs_sub ..,
      StableHlo.unary_bufs_sub .., StableHlo.reshape_bufs_sub .., StableHlo.reshape_bufs_sub ..⟩) op h)

omit m ρ in
theorem preOps_fresh : ∀ op ∈ preOps (F := F), op.fresh = ∅ := fun op h =>
  List.forall_iff_forall_mem.mp (show (preOps (F := F)).Forall fun op => op.fresh = ∅ from ⟨rfl, rfl, rfl, rfl, rfl, rfl, rfl⟩) op h

omit m ρ in
theorem postOps_within : ∀ op ∈ postOps (F := F), op.bufs ⊆ ucRefs τ sig := fun op h =>
  sub_ucRefs op (List.forall_iff_forall_mem.mp
    (show (postOps (F := F)).Forall fun op => op.bufs ⊆ StableHlo.tcRefs τ sig from StableHlo.reshape_bufs_sub ..) op h)

omit m ρ in
theorem postOps_fresh : ∀ op ∈ postOps (F := F), op.fresh = ∅ := fun op h =>
  List.forall_iff_forall_mem.mp (show (postOps (F := F)).Forall fun op => op.fresh = ∅ from rfl) op h

/-- @main on a device's TensorCore. -/
theorem hmain (κ : GSem nD τ sig → ℕ) (d : Dev nD) :
    iprop((K (F := F)).ctx EH (Pd m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd FIN
  rw [main_eq]
  iintro ⟨#Hctx, Hst, ⟨Hb, Hbufs, Hts, -⟩, -⟩
  ihave Hh := (Entails.of_eq (unscopedBufs_held d fun b => m (d, b))) $$ Hbufs
  iapply (StableHlo.wp_seq 𝒱 none Set.univ d (ucRefs τ sig) _ preOps preOps_within preOps_fresh (fun b => m (d, b))) $$ [Hb Hh]
  · isplitl [Hb] <;> iassumption
  iintro ⟨Hb, Hh⟩
  ihave Hh' := (show held (d.tc : Thread nD τ) (ucRefs τ sig) (after preOps fun b => m (d, b)) ⊢ iprop(Whole d (Xv m d) (Pv m d) (Wv m d) (Tv m d) (V1 m d (Proc.devRef .tc main_v5))
      ∗ held (T d) (ucRefs τ sig \ Finset.univ.map argRef) (V1 m d)) from Entails.of_eq (held_args d (V1 m d))) $$ Hh
  icases Hh' with ⟨Hw, Hrest⟩
  ihave Hgo := (st_intro m d) $$ Hw
  rw [wp_bind]
  iapply ((K (F := F)).wp_run (D (F := F)) 𝒱 (EH := EH) (P := Pd m) κ d 0)
  isplitr; · iexact Hctx
  isplitl [Hst]; · iexact Hst
  isplitl [Hgo]; · iexact Hgo
  iintro ⟨Hst, Hdn⟩
  ihave Hw := (dn_elim m d) $$ Hdn
  ihave Hh := (Entails.of_eq (held_call m d).symm) $$ [Hw Hrest]
  · isplitl [Hw] <;> iassumption
  iapply (StableHlo.wp_seq 𝒱 none Set.univ d (ucRefs τ sig) _ postOps postOps_within postOps_fresh (V2 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-- Each of @main's buffers as it leaves it. -/
def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held fq
  exact sep_comm.1.trans (SI_pointsTo_bufs_agree (qs := fun _ => fullShare) (ucRefs τ sig))

/-- The program's run: every buffer of @main ends as the fold of its lines says, every semaphore at zero. -/
theorem run_main [∀ e, Nonempty (Elt F e)] (hpre : PreOK m) :
    θ_run (Cert.KernelIdeal.defs (F := F)) (Cert.KernelIdeal.threads (F := F)) ⟨m, fun _ => 0, ρ⟩
      fun r => (∀ d, ∀ b ∈ ucRefs τ sig, r.2.mem (d, b) = V3 m d b) ∧ r.2.sem = fun _ => 0 :=
  SparseCore.Cfg.θ_run_sc_quiescent (K := K (F := F)) (D := D (F := F)) (𝒱 := 𝒱) (EH := EH) (P := Pd m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Main

end Cert.Proof.Lookup
-- ==== Proof.Value.lean ====
/-
  The values: what the reference's two look-ups and the kernel's host lines compute, index by index, on numbers in range.
-/
module

public import proofs.«01_k».proof.Proof.Launch
public import proofs.«01_k».proof.Proof.Gen.ReferenceIdeal.Run
public import proofs.«01_k».proof.Proof.Gen.Pre_in_range
public import Idealize.ShloMosaic.Lib.Pipeline.Value
public import Idealize.ShloMosaic.Lib.KernelVsHost
public import Idealize.ShloMosaic.Lib.ReduceAll

@[expose] public section

noncomputable section

namespace Cert.Proof.Lookup

open Idealize.ShloMosaic
open Idealize.SL.Sem

variable {F : FTy → Type}

/-- The shape of the numbers, -/
abbrev Snum : Shape := ⟨2, ![1024, 200]⟩
/-- of the numbers with an axis for the gather, -/
abbrev Snum1 : Shape := ⟨3, ![1024, 200, 1]⟩
/-- and of the rows looked up. -/
abbrev Srow (C : Nat) : Shape := ⟨3, ![1024, 200, C]⟩

/-- An index of a three-axis shape from its coordinates. -/
def ix3 {a b c : Nat} (i : Nat) (hi : i < a) (j : Nat) (hj : j < b) (k : Nat) (hk : k < c) : (⟨3, ![a, b, c]⟩ : Shape).Idx
  | 0 => ⟨i, hi⟩
  | 1 => ⟨j, hj⟩
  | 2 => ⟨k, hk⟩

theorem ix2_congr {n m a a' b b' : Nat} {ha : a < n} {hb : b < m} {ha' : a' < n} {hb' : b' < m} (ea : a = a') (eb : b = b') :
    (ix2 a ha b hb : (⟨2, ![n, m]⟩ : Shape).Idx) = ix2 a' ha' b' hb' := by
  subst ea eb; rfl

/-- Both programs' result: the first table's row a word names, then the second table's row a position names. -/
def RES (x p : Snum.Idx → BitVec 32) (Tb : (⟨2, ![1000002, 64]⟩ : Shape).Idx → F .f32) (Wb : (⟨2, ![64, 16]⟩ : Shape).Idx → F .f32) : (Srow 80).Idx → F .f32 := fun y =>
  if h : (y 2).val < 64 then Tb (ix2 (pick 1000001 (x (ix2 (y 0).val (y 0).isLt (y 1).val (y 1).isLt))) (pick_lt _ _) (y 2).val h)
  else Wb (ix2 (pick 63 (p (ix2 (y 0).val (y 0).isLt (y 1).val (y 1).isLt))) (pick_lt _ _) ((y 2).val - 64) (by have : (y 2).val < 80 := (y 2).isLt; omega))

/-! ## Words in range -/

theorem ofBool_one {b : Bool} : BitVec.ofBool b = 1#1 ↔ b = true := by cases b <;> decide

theorem bit_and {a b : BitVec 1} : IntOp.andi a b = 1#1 ↔ a = 1#1 ∧ b = 1#1 := by
  revert a b; decide

theorem bit_sge {a b : BitVec 32} : IntOp.cmpi .sge a b = 1#1 ↔ b.toInt ≤ a.toInt := by
  simp only [IntOp.cmpi, ofBool_one, BitVec.sle_eq_decide, decide_eq_true_eq]
theorem bit_sle {a b : BitVec 32} : IntOp.cmpi .sle a b = 1#1 ↔ a.toInt ≤ b.toInt := by
  simp only [IntOp.cmpi, ofBool_one, BitVec.sle_eq_decide, decide_eq_true_eq]
theorem bit_slt {a b : BitVec 32} : IntOp.cmpi .slt a b = 1#1 ↔ a.toInt < b.toInt := by
  simp only [IntOp.cmpi, ofBool_one, BitVec.slt_eq_decide, decide_eq_true_eq]

theorem toInt_small {a : BitVec 32} (h : a.toNat < 2 ^ 31) : a.toInt = a.toNat := by
  rw [BitVec.toInt_eq_toNat_cond, if_pos (by omega)]

theorem toIntNat_small {a : BitVec 32} (h : a.toNat < 2 ^ 31) : a.toInt.toNat = a.toNat := by
  rw [toInt_small h, Int.toNat_natCast]

theorem toInt_lit {n : Nat} (h : n < 2 ^ 31) : (BitVec.ofNat 32 n).toInt = n := by
  have : (BitVec.ofNat 32 n).toNat = n := by rw [BitVec.toNat_ofNat]; exact Nat.mod_eq_of_lt (by omega)
  rw [toInt_small (by omega), this]

/-- A word between zero and a bound, as signed words compare, is a number below the bound. -/
theorem word_lt {a : BitVec 32} {n : Nat} (hn : n < 2 ^ 31)
    (e : IntOp.andi (IntOp.cmpi .sge a 0#32) (IntOp.cmpi .slt a (BitVec.ofNat 32 n)) = 1#1) : a.toNat < n := by
  obtain ⟨h0, h1⟩ := bit_and.mp e
  have h0' := bit_sge.mp h0
  have h1' := bit_slt.mp h1
  rw [toInt_lit hn] at h1'
  have : (0#32 : BitVec 32).toInt = 0 := rfl
  rw [this] at h0'
  have := a.isLt
  rw [BitVec.toInt_eq_toNat_cond] at h0' h1'
  split at h0' <;> omega

theorem pre_words [FloatOps F] [Cert.Pre_in_range.Facts] (x p : IVec Snum 32) (Tb : FVec F ⟨2, ![1000002, 64]⟩ .f32) (Wb : FVec F ⟨2, ![64, 16]⟩ .f32)
    (h : Cert.Pre_in_range.fn x p Tb Wb = fun _ => 1#1) : (∀ j, (x j).toNat < 1000000) ∧ ∀ j, (p j).toNat < 64 := by
  have e := congrFun h (fun a => a.elim0)
  obtain ⟨hx, hp⟩ := bit_and.mp e
  haveI : Subsingleton Cert.Pre_in_range.S_.Idx := ⟨fun a b => funext fun i => i.elim0⟩
  exact ⟨fun j => word_lt (by decide) (Host.reduce_andi_all _ _ _ _ _ hx j), fun j => word_lt (by decide) (Host.reduce_andi_all _ _ _ _ _ hp j)⟩

/-! ## A look-up of rows: `jnp.take` as printed -/

/-- The dimension numbers of a look-up of whole rows. -/
abbrev rowTake (N C : Nat) (wf : GatherDims.WF ⟨2, ![N, C]⟩ Snum1 (Srow C) [2] [0] [] [0] [] 2 ![1, C]) : GatherDims ⟨2, ![N, C]⟩ Snum1 (Srow C) where
  offsetDims := [2]
  collapsedSliceDims := [0]
  operandBatchingDims := []
  startIndicesBatchingDims := []
  startIndexMap := [0]
  indexVectorDim := 2
  sliceSizes := ![1, C]
  wf := wf

theorem rowTake_apply {α : Type} {N C : Nat} (wf : GatherDims.WF ⟨2, ![N, C]⟩ Snum1 (Srow C) [2] [0] [] [0] [] 2 ![1, C])
    (tb : (⟨2, ![N, C]⟩ : Shape).Idx → α) (idx : IVec Snum1 32) (y : (Srow C).Idx) (k : Snum1.Idx) (h0 : (k 0).val = (y 0).val) (h1 : (k 1).val = (y 1).val)
    (r : Nat) (hr : r < N) (hv : (idx k).toInt.toNat = r) : Host.gather (rowTake N C wf) tb idx y = tb (ix2 r hr (y 2).val (y 2).isLt) := by
  unfold Host.gather
  refine congrArg tb (funext fun a => Fin.ext ?_)
  show (rowTake N C wf).start y idx a + (rowTake N C wf).batchCoord y a + (rowTake N C wf).offCoord y a = _
  rw [GatherDims.batchCoord_eq_zero _ _ _ List.not_mem_nil, Nat.add_zero]
  have ha : a = 0 ∨ a = 1 := by
    match a with
    | ⟨0, _⟩ => exact .inl rfl
    | ⟨1, _⟩ => exact .inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowTake N C wf).startIndexMap from List.mem_singleton.mpr rfl)]
    have hk : (rowTake N C wf).siIdx y ⟨List.idxOf (0 : Fin 2) (rowTake N C wf).startIndexMap, List.idxOf_lt_length_iff.2 (List.mem_singleton.mpr rfl)⟩ = k := by
      funext b
      refine Fin.ext ?_
      match b with
      | ⟨0, _⟩ => exact h0.symm
      | ⟨1, _⟩ => exact h1.symm
      | ⟨2, _⟩ => exact (Nat.lt_one_iff.mp (k 2).isLt).symm
    rw [hk, hv]
    show min r (N - 1) = r
    omega
  · unfold GatherDims.start
    rw [dif_neg (show (1 : Fin 2) ∉ (rowTake N C wf).startIndexMap from fun h => Fin.zero_ne_one (List.mem_singleton.mp h).symm), Nat.zero_add]
    rfl

section Take
variable [FloatOps F] {N C : Nat} (wf : GatherDims.WF ⟨2, ![N, C]⟩ Snum1 (Srow C) [2] [0] [] [0] [] 2 ![1, C])
variable (hs : (⟨0, ![]⟩ : Shape).BroadcastsInDim Snum ![]) (hn1 : Snum.BroadcastsInDim Snum1 ![0, 1]) (hs1 : (⟨0, ![]⟩ : Shape).BroadcastsInDim Snum1 ![])
variable (hl : (⟨1, ![1]⟩ : Shape).BroadcastsInDim ⟨3, ![1, 1, 1]⟩ ![2]) (hl1 : (⟨3, ![1, 1, 1]⟩ : Shape).BroadcastsInDim Snum1 ![0, 1, 2])
variable (hr : Snum1.ReducesTo [2] Snum) (h0 : 0 < (⟨0, ![]⟩ : Shape).numel) (hm : Snum.BroadcastsInDim (Srow C) ![0, 1]) (hf : (⟨0, ![]⟩ : Shape).BroadcastsInDim (Srow C) ![])
variable (n last : BitVec 32) (tb : FVec F ⟨2, ![N, C]⟩ .f32) (x : IVec Snum 32)

/-- The row numbers with a negative one counted from the table's end. -/
def takeIdx : IVec Snum1 32 :=
  broadcastInDim Snum1 ![0, 1] hn1 (select (cmpi .slt x (broadcastInDim Snum ![] hs (constantI ⟨0, ![]⟩ 32 0#32))) (addi x (broadcastInDim Snum ![] hs (constantI ⟨0, ![]⟩ 32 n))) x)

/-- Which of them name a row. -/
def takeMask : IVec Snum 1 :=
  Host.reduce IntOp.andi (andi (cmpi .sge (takeIdx hs hn1 n x) (broadcastInDim Snum1 ![] hs1 (constantI ⟨0, ![]⟩ 32 0#32)))
    (cmpi .sle (takeIdx hs hn1 n x) (broadcastInDim Snum1 ![0, 1, 2] hl1 (broadcastInDim ⟨3, ![1, 1, 1]⟩ ![2] hl (constantI ⟨1, ![1]⟩ 32 last))))) (constantI ⟨0, ![]⟩ 1 1#1) hr h0

/-- The look-up: a row where a number names one, the fill value elsewhere. -/
def takeRows : FVec F (Srow C) .f32 :=
  select (broadcastInDim (Srow C) ![0, 1] hm (takeMask hs hn1 hs1 hl hl1 hr h0 n last x)) (Host.gather (rowTake N C wf) tb (takeIdx hs hn1 n x))
    (broadcastInDim (Srow C) ![] hf (constant ⟨0, ![]⟩ .f32 0x7FC00000#32))

omit [FloatOps F] in
theorem takeIdx_apply (hx : ∀ j, (x j).toNat < 2 ^ 31) (k : Snum1.Idx) : takeIdx hs hn1 n x k = x (ix2 (k 0).val (k 0).isLt (k 1).val (k 1).isLt) := by
  unfold takeIdx
  rw [broadcastInDim_apply _ hn1 _ k (ix2 (k 0).val (k 0).isLt (k 1).val (k 1).isLt) (fun a => by
    match a with
    | ⟨0, _⟩ => rfl
    | ⟨1, _⟩ => rfl)]
  refine if_neg fun h => ?_
  have h' := bit_slt.mp h
  rw [toInt_small (hx _)] at h'
  exact absurd h' (by show ¬ (_ : Int) < 0; omega)

theorem takeRows_apply (hN : N < 2 ^ 31) (hlast : last = BitVec.ofNat 32 (N - 1)) (hx : ∀ j, (x j).toNat < N) (y : (Srow C).Idx) :
    takeRows wf hs hn1 hs1 hl hl1 hr h0 hm hf n last tb x y
      = tb (ix2 (x (ix2 (y 0).val (y 0).isLt (y 1).val (y 1).isLt)).toNat (hx _) (y 2).val (y 2).isLt) := by
  have hx' : ∀ j, (x j).toNat < 2 ^ 31 := fun j => (hx j).trans hN
  have hmask : ∀ j, takeMask hs hn1 hs1 hl hl1 hr h0 n last x j = 1#1 := fun j => by
    refine Host.reduce_andi_one _ _ hr h0 j rfl fun i => ?_
    show IntOp.andi (IntOp.cmpi .sge (takeIdx hs hn1 n x i) 0#32) (IntOp.cmpi .sle (takeIdx hs hn1 n x i) last) = 1#1
    rw [takeIdx_apply hs hn1 n x hx' i]
    have hi := hx (ix2 (i 0).val (i 0).isLt (i 1).val (i 1).isLt)
    refine bit_and.mpr ⟨bit_sge.mpr ?_, bit_sle.mpr ?_⟩
    · rw [toInt_small (hx' _)]
      exact Int.natCast_nonneg _
    · rw [toInt_small (hx' _), hlast, toInt_lit (by omega)]
      omega
  have hp : broadcastInDim (Srow C) ![0, 1] hm (takeMask hs hn1 hs1 hl hl1 hr h0 n last x) y = 1#1 := hmask _
  have hg : Host.gather (rowTake N C wf) tb (takeIdx hs hn1 n x) y = tb (ix2 (x (ix2 (y 0).val (y 0).isLt (y 1).val (y 1).isLt)).toNat (hx _) (y 2).val (y 2).isLt) := by
    refine rowTake_apply wf tb _ y (ix3 (y 0).val (y 0).isLt (y 1).val (y 1).isLt 0 Nat.one_pos) rfl rfl _ (hx _) ?_
    exact (congrArg (fun w : BitVec 32 => w.toInt.toNat) (takeIdx_apply hs hn1 n x hx' _)).trans (toIntNat_small (hx' _))
  unfold takeRows select
  rw [hp, hg]
  exact ValueIdx.select_one _ _

end Take

end Cert.Proof.Lookup
-- ==== Proof.Result.lean ====
/-
  The results: the reference's run and the kernel's run, both at the same function of the arguments.
-/
module

public import proofs.«01_k».proof.Proof.Value

@[expose] public section

noncomputable section

namespace Cert.Proof.Lookup

open Idealize.ShloMosaic
open Idealize.SL.Sem

variable {F : FTy → Type} [FloatOps F]

/-! ## The reference -/

/-- Two look-ups joined along the columns are the result. -/
theorem joined (x p : Snum.Idx → BitVec 32) (Tb : (⟨2, ![1000002, 64]⟩ : Shape).Idx → F .f32) (Wb : (⟨2, ![64, 16]⟩ : Shape).Idx → F .f32)
    (hx : ∀ j, (x j).toNat < 1000002) (hp : ∀ j, (p j).toNat < 64) (h : Shape.Concatenates [Srow 64, Srow 16] (Srow 80) 2)
    (A : (Srow 64).Idx → F .f32) (B : (Srow 16).Idx → F .f32)
    (hA : ∀ y, A y = Tb (ix2 (x (ix2 (y 0).val (y 0).isLt (y 1).val (y 1).isLt)).toNat (hx _) (y 2).val (y 2).isLt))
    (hB : ∀ y, B y = Wb (ix2 (p (ix2 (y 0).val (y 0).isLt (y 1).val (y 1).isLt)).toNat (hp _) (y 2).val (y 2).isLt)) :
    concatenate (Srow 80) 2 [⟨Srow 64, A⟩, ⟨Srow 16, B⟩] h = RES x p Tb Wb := by
  funext y
  have hy2 : (y 2).val < 80 := (y 2).isLt
  unfold RES
  by_cases hc : (y 2).val < 64
  · rw [dif_pos hc, concatenate_pair_apply_left 2 A B h y rfl (ix3 (y 0).val (y 0).isLt (y 1).val (y 1).isLt (y 2).val hc) (fun b => by
      match b with
      | ⟨0, _⟩ => rfl
      | ⟨1, _⟩ => rfl
      | ⟨2, _⟩ => rfl), hA]
    exact congrArg Tb (ix2_congr (pick_of_lt (hx _)).symm rfl)
  · rw [dif_neg hc, concatenate_pair_apply_right 2 A B h y rfl rfl (ix3 (y 0).val (y 0).isLt (y 1).val (y 1).isLt ((y 2).val - 64) (by omega)) (fun b hb => by
      match b with
      | ⟨0, _⟩ => rfl
      | ⟨1, _⟩ => rfl
      | ⟨2, _⟩ => exact absurd rfl hb) (Nat.sub_add_cancel (Nat.le_of_not_lt hc)), hB]
    exact congrArg Wb (ix2_congr (pick_of_lt (hp _)).symm rfl)

section Reference
open Cert.ReferenceIdeal Cert.ReferenceIdeal.Gen Idealize.ShloMosaic.TcCoe

theorem run_reference (m : (ℓ : Loc nD τ sig) → Buf (Elt F) ℓ) (ρ : Dev nD → PrngReg)
    (hx : ∀ (c : Dev nD) j, ((m ((c.tc : Thread nD τ).loc main_arg0) : Snum.Idx → BitVec 32) j).toNat < 1000002)
    (hp : ∀ (c : Dev nD) j, ((m ((c.tc : Thread nD τ).loc main_arg1) : Snum.Idx → BitVec 32) j).toNat < 64) :
    θ_run defs (onTc (τ := τ) (main (F := F))) ⟨m, fun _ => 0, ρ⟩ fun r => ∀ c : Dev nD,
      r.2.mem ((c.tc : Thread nD τ).loc main_v2)
          = RES (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (joined _ _ _ _ (hx c) (hp c) concatenates_S1024x200x64_S1024x200x16_S1024x200x80_d2 _ _
      (takeRows_apply gather_S1000002x64_S1024x200x1_S1024x200x64_2_0_n_n_0_2_164_wf bcast_S_S1024x200 bcast_S1024x200_S1024x200x1_0_1 bcast_S_S1024x200x1
        bcast_S1_S1x1x1_2 bcast_S1x1x1_S1024x200x1_0_1_2 reducesTo_S1024x200x1_S1024x200_d2 h_S_ bcast_S1024x200_S1024x200x64_0_1 bcast_S_S1024x200x64
        1000002#32 1000001#32 _ _ (by decide) rfl (hx c))
      (takeRows_apply gather_S64x16_S1024x200x1_S1024x200x16_2_0_n_n_0_2_116_wf bcast_S_S1024x200 bcast_S1024x200_S1024x200x1_0_1 bcast_S_S1024x200x1
        bcast_S1_S1x1x1_2 bcast_S1x1x1_S1024x200x1_0_1_2 reducesTo_S1024x200x1_S1024x200_d2 h_S_ bcast_S1024x200_S1024x200x16_0_1 bcast_S_S1024x200x16
        64#32 63#32 _ _ (by decide) rfl (hp c))), (h c).2⟩)
    (Cert.ReferenceIdeal.Value.run m ρ)

end Reference

/-! ## The kernel -/

section Kernel
open Cert.KernelIdeal Cert.KernelIdeal.Gen Idealize.ShloMosaic.TcCoe
open Idealize.ShloMosaic.StableHlo (after TRef.unary TRef.binary TRef.toBuf TRef.ofBuf)

variable (m : (ℓ : Loc nD τ sig) → Buf (Elt F) ℓ) (d : Dev nD)

/-- The words, positions and tables of a device. -/
abbrev argX : Snum.Idx → BitVec 32 := m ((d.tc : Thread nD τ).loc main_arg0)
abbrev argP : Snum.Idx → BitVec 32 := m ((d.tc : Thread nD τ).loc main_arg1)
abbrev argT : S1000002x64.Idx → F .f32 := m ((d.tc : Thread nD τ).loc main_arg2)
abbrev argW : S64x16.Idx → F .f32 := m ((d.tc : Thread nD τ).loc main_arg3)

theorem Xv_eq : Xv m d = shapeCast S204800 (argX m d) shapeCasts_S1024x200_S204800 := by
  unfold Xv V1
  simp only [preOps, TRef.unary, TRef.binary, TRef.toBuf, TRef.ofBuf, cast_eq]
  after_results_simp <;> rfl

theorem Pv_eq : Pv m d = shapeCast S204800 (argP m d) shapeCasts_S1024x200_S204800 := by
  unfold Pv V1
  simp only [preOps, TRef.unary, TRef.binary, TRef.toBuf, TRef.ofBuf, cast_eq]
  after_results_simp <;> rfl

theorem Wv_eq : Wv m d = argW m d := by
  unfold Wv V1
  simp only [preOps, TRef.unary, TRef.binary, TRef.toBuf, TRef.ofBuf, cast_eq]
  after_results_simp <;> rfl

theorem Tv_eq : Tv m d = transpose S1000002x128 [1, 0] (pad S128x1000002 ![0, 0] ![64, 0] ![0, 0]
    (transpose S64x1000002 [1, 0] (argT m d) transposes_S1000002x64_S64x1000002_1_0) (sitofp .f32 (constantI S_ 32 0#32) : FVec F S_ .f32)
    pads_S64x1000002_S128x1000002_0640_000 h_S_) transposes_S128x1000002_S1000002x128_1_0 := by
  unfold Tv V1
  simp only [preOps, TRef.unary, TRef.binary, TRef.toBuf, TRef.ofBuf, cast_eq]
  after_results_simp <;> rfl

/-- Number `k` of the flat order is the one of row `k / 200`, column `k % 200`. -/
theorem flat_apply (x : Snum.Idx → BitVec 32) (h : Snum.ShapeCasts S204800) (k : Nat) (hk : k < 204800) (i j : Nat) (hi : i < 1024) (hj : j < 200) (e : k = i * 200 + j) :
    shapeCast S204800 x h (ix1 k hk) = x (ix2 i hi j hj) :=
  shapeCast_apply x h _ _ (by
    rw [Shape.rowMajor_val_one, Shape.rowMajor_val_two]
    exact e.symm)

theorem Tv_apply (r : Nat) (hr : r < 1000002) (c : Nat) (hc : c < 64) (hc' : c < 128) : Tv m d (ix2 r hr c hc') = argT m d (ix2 r hr c hc) := by
  rw [Tv_eq]
  refine (transpose_apply _ _ _ _ (ix2 c hc' r hr : S128x1000002.Idx) (fun b => by
    match b with
    | ⟨0, _⟩ => rfl
    | ⟨1, _⟩ => rfl)).trans ?_
  refine (pad_apply_of_inside _ _ _ _ _ _ _ _ (ix2 c hc r hr : S64x1000002.Idx) (fun a => by
    match a with
    | ⟨0, _⟩ => exact (Nat.zero_add _).symm ▸ (Nat.mul_one _).symm
    | ⟨1, _⟩ => exact (Nat.zero_add _).symm ▸ (Nat.mul_one _).symm)).trans ?_
  exact transpose_apply _ _ _ _ (ix2 r hr c hc) (fun b => by
    match b with
    | ⟨0, _⟩ => rfl
    | ⟨1, _⟩ => rfl)

theorem preOK (hx : ∀ d j, (argX m d j).toNat < 1000002) (hp : ∀ d j, (argP m d j).toNat < 64) : PreOK m := fun d => by
  rw [Xv_eq, Pv_eq]
  exact ⟨fun j => hx d _, fun j => hp d _⟩

theorem V3_out : (V3 m d (Proc.devRef .tc main_v6) : (Srow 80).Idx → F .f32)
    = shapeCast (Srow 80) (OUT (Xv m d) (Pv m d) (Tv m d) (Wv m d)) shapeCasts_S204800x80_S1024x200x80 := by
  unfold V3 V2
  simp only [postOps]
  after_results_simp <;> rfl

theorem V3_RES : V3 m d (Proc.devRef .tc main_v6) = RES (argX m d) (argP m d) (argT m d) (argW m d) := by
  refine (V3_out m d).trans (funext fun y => ?_)
  have h0 : (y 0).val < 1024 := (y 0).isLt
  have h1 : (y 1).val < 200 := (y 1).isLt
  have h2 : (y 2).val < 80 := (y 2).isLt
  have hk : (y 0).val * 200 + (y 1).val < 204800 := by omega
  rw [shapeCast_apply _ _ y (ix2 ((y 0).val * 200 + (y 1).val) hk (y 2).val h2 : S204800x80.Idx) (by
    rw [Shape.rowMajor_val_two, Shape.rowMajor_val_three]
    rfl)]
  have eX : Xv m d (ix1 ((y 0).val * 200 + (y 1).val) hk) = argX m d (ix2 (y 0).val h0 (y 1).val h1) := by
    rw [Xv_eq]; exact flat_apply _ _ _ _ _ _ _ _ rfl
  have eP : Pv m d (ix1 ((y 0).val * 200 + (y 1).val) hk) = argP m d (ix2 (y 0).val h0 (y 1).val h1) := by
    rw [Pv_eq]; exact flat_apply _ _ _ _ _ _ _ _ rfl
  unfold OUT RES
  by_cases hc : (y 2).val < 64
  · refine (dif_pos hc).trans (Eq.trans ?_ (dif_pos hc).symm)
    refine (congrArg (Tv m d) (ix2_congr (congrArg (pick 1000001) eX) rfl)).trans (Tv_apply m d _ (pick_lt _ _) _ hc (hc.trans (by decide)))
  · refine (dif_neg hc).trans (Eq.trans ?_ (dif_neg hc).symm)
    rw [Wv_eq]
    exact congrArg (argW m d) (ix2_congr (congrArg (pick 63) eP) rfl)

/-- A buffer none of @main's lines writes ends as it began. -/
theorem V3_arg (b : Ref sig .tc) (hb : b ∉ [main_v0, main_c, main_call0_v0, main_v1, main_v2, main_v3, main_v4]) (h5 : b ≠ main_v5) (h6 : b ∉ [main_v6]) :
    V3 m d (Proc.devRef .tc b) = m ((d.tc : Thread nD τ).loc b) := by
  have e3 : V3 m d (Proc.devRef .tc b) = V2 m d (Proc.devRef .tc b) :=
    StableHlo.after_of_writes_sub postOps _ (StableHlo.forall_writes_sub_of_map rfl) h6
  have e2 : V2 m d (Proc.devRef .tc b) = V1 m d (Proc.devRef .tc b) :=
    Function.update_of_ne (fun h => h5 (Proc.devRef_injective _ h)) _ _
  have e1 : V1 m d (Proc.devRef .tc b) = m (d, Proc.devRef .tc b) :=
    StableHlo.after_of_writes_sub preOps _ (StableHlo.forall_writes_sub_of_map rfl) hb
  exact e3.trans (e2.trans e1)

/-- The kernel's run on numbers in range: its result is `RES` of its arguments, which it leaves as they were, and every counter ends at zero. -/
theorem run_kernel [∀ e, Nonempty (Elt F e)] [Cert.Pre_in_range.Facts] (ρ : Dev nD → PrngReg)
    (hpre : ∀ c : Dev nD, Cert.Pre_in_range.fn (argX m c) (argP m c) (argT m c) (argW m c) = fun _ => 1#1) :
    θ_run Cert.KernelIdeal.defs Cert.KernelIdeal.threads ⟨m, fun _ => 0, ρ⟩ fun r => (∀ c : Dev nD,
      r.2.mem ((c.tc : Thread nD τ).loc main_v6) = RES (argX m c) (argP m c) (argT m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  have hw : ∀ c : Dev nD, _ := fun c => pre_words _ _ _ _ (hpre c)
  have hin : ∀ b : Ref sig .tc, ¬ b.isScoped → (Proc.devRef .tc b : DevRef τ sig) ∈ Pipeline.ucRefs τ sig := fun b hb =>
    Finset.mem_filter.mpr ⟨StableHlo.devRef_mem_tcRefs _, hb⟩
  (θ_run _ _ _).mono (fun _ h => ⟨fun c =>
      ⟨(h.1 c _ (hin main_v6 (by decide))).trans (V3_RES m c),
        (h.1 c _ (hin main_arg0 (by decide))).trans (V3_arg m c main_arg0 (by decide) (by decide) (by decide)),
        (h.1 c _ (hin main_arg1 (by decide))).trans (V3_arg m c main_arg1 (by decide) (by decide) (by decide)),
        (h.1 c _ (hin main_arg2 (by decide))).trans (V3_arg m c main_arg2 (by decide) (by decide) (by decide)),
        (h.1 c _ (hin main_arg3 (by decide))).trans (V3_arg m c main_arg3 (by decide) (by decide) (by decide))⟩, h.2⟩)
    (run_main m ρ (preOK m (fun c j => ((hw c).1 j).trans (by decide)) (fun c j => (hw c).2 j)))

end Kernel

end Cert.Proof.Lookup
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Result
public import Idealize.ShloMosaic.Adequacy
public import Idealize.ShloMosaic.Init

@[expose] public section

noncomputable section

namespace Cert.Proof

open Idealize.ShloMosaic Idealize.SL.Sem Cert.Proof.Lookup

set_option maxHeartbeats 4000000 in
/-- The kernel's program and the ideal one are the same text, whose run is proved over any floats: here over the words, -/
theorem frame_kernel : Cert.quiescent_Kernel := fun m ρ hpre =>
  (θ_run Cert.KernelIdeal.defs _ _).mono (fun _ h => ⟨fun c => (h.1 c).2, h.2⟩) (run_kernel (F := Bits) m ρ hpre)

/-- and here over the extended reals. -/
theorem frame_ideal : Cert.quiescent_KernelIdeal := fun m ρ hpre =>
  (θ_run Cert.KernelIdeal.defs _ _).mono (fun _ h => ⟨fun c => (h.1 c).2, h.2⟩) (run_kernel (F := Ideal) m ρ hpre)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- Both runs end at `RES` of the kernel's arguments. -/
theorem same_function : Cert.algebraic_KernelIdeal_ReferenceIdeal := fun m ρ m' ρ' hpre hagree =>
  have hw := fun c => pre_words (F := Ideal) _ _ _ _ (hpre c)
  ⟨fun c => RES (argX m c) (argP m c) (argT m c) (argW m c),
    (θ_run Cert.KernelIdeal.defs _ _).mono (fun _ h c => h.1 c) (run_kernel (F := Ideal) m ρ hpre),
    (θ_run Cert.ReferenceIdeal.defs _ _).mono
      (fun _ h c => ⟨(h c).1.trans (by rw [(hagree c).1, (hagree c).2.1, (hagree c).2.2.1, (hagree c).2.2.2]), (h c).2⟩)
      (run_reference (F := Ideal) m' ρ' (fun c j => by rw [(hagree c).1]; exact ((hw c).1 j).trans (by decide)) (fun c j => by rw [(hagree c).2.1]; exact (hw c).2 j))⟩

theorem claim : Cert.Claim := ⟨Cert.Kernel.Gen.facts, Cert.KernelIdeal.Gen.facts, Cert.ReferenceIdeal.Gen.facts, Cert.Pre_in_range.Gen.facts,
  frame_kernel, frame_ideal, frame_reference, fun m ρ _ => frame_reference m ρ trivial, trivial, same_function⟩

end Cert.Proof

end
